-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x64x24x24 : Shape := ⟨4, ![64, 64, 24, 24]⟩
abbrev S1024x64 : Shape := ⟨2, ![1024, 64]⟩
abbrev S64x64x576 : Shape := ⟨3, ![64, 64, 576]⟩
abbrev S64x1024 : Shape := ⟨2, ![64, 1024]⟩
abbrev S_ : Shape := ⟨0, ![]⟩
abbrev S1024 : Shape := ⟨1, ![1024]⟩
abbrev S1024x1 : Shape := ⟨2, ![1024, 1]⟩
abbrev S1x1 : Shape := ⟨2, ![1, 1]⟩
abbrev S8x64x576 : Shape := ⟨3, ![8, 64, 576]⟩
abbrev S1024x4608 : Shape := ⟨2, ![1024, 4608]⟩
abbrev S1x64x576 : Shape := ⟨3, ![1, 64, 576]⟩
abbrev S64x576 : Shape := ⟨2, ![64, 576]⟩
abbrev S64x4608 : Shape := ⟨2, ![64, 4608]⟩
abbrev S4608 : Shape := ⟨1, ![4608]⟩
abbrev S1x4608 : Shape := ⟨2, ![1, 4608]⟩
abbrev S1x64x4608 : Shape := ⟨3, ![1, 64, 4608]⟩
abbrev S1 : Shape := ⟨1, ![1]⟩
abbrev S1x1x1 : Shape := ⟨3, ![1, 1, 1]⟩
abbrev S4608x8 : Shape := ⟨2, ![4608, 8]⟩
abbrev S1024x8 : Shape := ⟨2, ![1024, 8]⟩
abbrev S1x1024 : Shape := ⟨2, ![1, 1024]⟩

abbrev nBuf : Space → Nat
  | .hbm => 15
  | .vmem => 11
  | .smem => 0
  | _ => 0

abbrev bufTy : (tb : Table) → Fin (tcTables nBuf tb) → BufTy
  | .hbm, ⟨0, _⟩ => ⟨S64x64x24x24, .f32⟩
  | .hbm, ⟨1, _⟩ => ⟨S1024x64, .f32⟩
  | .hbm, ⟨2, _⟩ => ⟨S64x64x576, .f32⟩
  | .hbm, ⟨3, _⟩ => ⟨S64x1024, .f32⟩
  | .hbm, ⟨4, _⟩ => ⟨S64x1024, .bf16⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S64x64x576, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S64x64x24x24, .f32⟩
  | .hbm, ⟨14, _⟩ => ⟨S_, .f32⟩
  | .local _ .vmem, ⟨0, _⟩ => ⟨S8x64x576, .f32⟩
  | .local _ .vmem, ⟨1, _⟩ => ⟨S8x64x576, .f32⟩
  | .local _ .vmem, ⟨2, _⟩ => ⟨S1024x64, .f32⟩
  | .local _ .vmem, ⟨3, _⟩ => ⟨S64x1024, .bf16⟩
  | .local _ .vmem, ⟨4, _⟩ => ⟨S1024x1, .f32⟩
  | .local _ .vmem, ⟨5, _⟩ => ⟨S8x64x576, .f32⟩
  | .local _ .vmem, ⟨6, _⟩ => ⟨S8x64x576, .f32⟩
  | .local _ .vmem, ⟨7, _⟩ => ⟨S1x1, .f32⟩
  | .local _ .vmem, ⟨8, _⟩ => ⟨S1x1, .f32⟩
  | .local _ .vmem, ⟨9, _⟩ => ⟨S1024x4608, .bf16⟩
  | .local _ .vmem, ⟨10, _⟩ => ⟨S1x1, .f32⟩
  | _, _ => ⟨S64x64x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_call0_v4 : Ref sig .tc := ⟨.hbm, 7, rfl⟩
abbrev main_call0_v5 : Ref sig .tc := ⟨.hbm, 8, rfl⟩
abbrev main_call0_v6_0 : Ref sig .tc := ⟨.hbm, 9, rfl⟩
abbrev main_call0_v6_1 : Ref sig .tc := ⟨.hbm, 10, rfl⟩
abbrev main_call0_v6_2 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v101 : BitVec 1 := Scalar.cmpi .eq arg0 c7_i32
  let v102 : BitVec 32 := Scalar.extui v101
  let c0_i32_62 : BitVec 32 := 0#32
  let v103 : BitVec 1 := Scalar.cmpi .ne v102 c0_i32_62
  v103

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x64x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x64x24x24 : Shape := ⟨4, ![64, 64, 24, 24]⟩
abbrev S1024x64 : Shape := ⟨2, ![1024, 64]⟩
abbrev S64x24x24x64 : Shape := ⟨4, ![64, 24, 24, 64]⟩
abbrev S36864x64 : Shape := ⟨2, ![36864, 64]⟩
abbrev S_ : Shape := ⟨0, ![]⟩
abbrev S36864 : Shape := ⟨1, ![36864]⟩
abbrev S36864x1 : Shape := ⟨2, ![36864, 1]⟩
abbrev S1024 : Shape := ⟨1, ![1024]⟩
abbrev S1x1024 : Shape := ⟨2, ![1, 1024]⟩
abbrev S36864x1024 : Shape := ⟨2, ![36864, 1024]⟩
abbrev S64x1024 : Shape := ⟨2, ![64, 1024]⟩

abbrev nBuf : Space → Nat
  | .hbm => 66
  | .vmem => 0
  | .smem => 0
  | _ => 0

abbrev bufTy : (tb : Table) → Fin (tcTables nBuf tb) → BufTy
  | .hbm, ⟨0, _⟩ => ⟨S64x64x24x24, .f32⟩
  | .hbm, ⟨1, _⟩ => ⟨S1024x64, .f32⟩
  | .hbm, ⟨2, _⟩ => ⟨S64x24x24x64, .f32⟩
  | .hbm, ⟨3, _⟩ => ⟨S36864x64, .f32⟩
  | .hbm, ⟨4, _⟩ => ⟨S36864x64, .f32⟩
  | .hbm, ⟨5, _⟩ => ⟨S_, .f32⟩
  | .hbm, ⟨6, _⟩ => ⟨S36864, .f32⟩
  | .hbm, ⟨7, _⟩ => ⟨S36864x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S36864x1024, .f32⟩
  | .hbm, ⟨13, _⟩ => ⟨S36864x1024, .f32⟩
  | .hbm, ⟨14, _⟩ => ⟨S36864x1024, .f32⟩
  | .hbm, ⟨15, _⟩ => ⟨S_, .f32⟩
  | .hbm, ⟨16, _⟩ => ⟨S36864x64, .f32⟩
  | .hbm, ⟨17, _⟩ => ⟨S36864x64, .f32⟩
  | .hbm, ⟨18, _⟩ => ⟨S64x1024, .f32⟩
  | .hbm, ⟨19, _⟩ => ⟨S36864x1024, .f32⟩
  | .hbm, ⟨20, _⟩ => ⟨S36864x1024, .f32⟩
  | .hbm, ⟨21, _⟩ => ⟨S36864x1024, .i32⟩
  | .hbm, ⟨22, _⟩ => ⟨S_, .f32⟩
  | .hbm, ⟨23, _⟩ => ⟨S_, .i32⟩
  | .hbm, ⟨24, _⟩ => ⟨S36864, .f32⟩
  | .hbm, ⟨25, _⟩ => ⟨S36864, .i32⟩
  | .hbm, ⟨26, _⟩ => ⟨S36864x1, .i32⟩
  | .hbm, ⟨27, _⟩ => ⟨S1x1024, .i32⟩
  | .hbm, ⟨28, _⟩ => ⟨S36864x1024, .i32⟩
  | .hbm, ⟨29, _⟩ => ⟨S36864x1024, .i32⟩
  | .hbm, ⟨30, _⟩ => ⟨S36864x1024, .i1⟩
  | .hbm, ⟨31, _⟩ => ⟨S36864x1024, .f32⟩
  | .hbm, ⟨32, _⟩ => ⟨S36864x64, .f32⟩
  | .hbm, ⟨33, _⟩ => ⟨S64x24x24x64, .f32⟩
  | .hbm, ⟨34, _⟩ => ⟨S64x24x24x64, .f32⟩
  | .hbm, ⟨35, _⟩ => ⟨S64x24x24x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S64x24x24x64, .f32⟩
  | .hbm, ⟨41, _⟩ => ⟨S64x24x24x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S64x24x24x64, .f32⟩
  | .hbm, ⟨50, _⟩ => ⟨S64x24x24x64, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S64x64x24x24, .f32⟩
  | _, _ => ⟨S64x64x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.BlockRead.lean ====
/-
  What one grid point of the kernel leaves in its output blocks and in its two scratch buffers.

  A grid point works on eight images. It lays their pixels side by side as the columns of one [64, 4608] array
  (`cols`), measures every pixel against every code, marks the nearest code of each pixel (`marks`), looks that code
  up, and takes the difference to the pixel (`diff`). It writes the quantized pixels back image by image, adds the sum
  of the squared differences to one scratch and the marks to the other; the first point clears both scratches before
  that, and the last point turns them into the loss and the perplexity after it.

  Everything here holds for any float values: the lemmas only say which of the kernel's own payload functions end up
  in which buffer.
-/
module

public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

noncomputable section

namespace Cert.Proof.Block

open Idealize.ShloMosaic Idealize.ShloMosaic.TcCoe Idealize.SL.Sem
open Cert.KernelIdeal Cert.KernelIdeal.Gen

variable {F : FTy → Type} [FloatOps F]

/-- Image `k` of a block of eight. -/
def slab (x : Vec F S8x64x576 .f32) (k : Fin 8) : Vec F S1x64x576 .f32 := fun j => x (ix3 k (j 1) (j 2))

/-- A load of one image out of the block. -/
theorem ld_slab (x : Vec F S8x64x576 .f32) (k : ℕ) (hk : k < 8)
    (inb : ∀ a, (![k, 0, 0] : Fin 3 → ℕ) a + (![1, 64, 576] : Fin 3 → ℕ) a ≤ S8x64x576.size a) :
    View.ld x (Rect.unit ![k, 0, 0] ![1, 64, 576] inb) = slab x ⟨k, hk⟩ := by
  funext j
  show x _ = x _
  congr 1
  funext a
  apply Fin.ext
  match a with
  | 0 => show k + 1 * (j 0).val = k; have := (j 0).isLt; have : (![1, 64, 576] : Fin 3 → ℕ) 0 = 1 := rfl; change (j 0).val < 1 at *; omega
  | 1 => show 0 + 1 * (j 1).val = (j 1).val; omega
  | 2 => show 0 + 1 * (j 2).val = (j 2).val; omega

/-- The block's pixels as columns. -/
def cols (x : Vec F S8x64x576 .f32) : FVec F S64x4608 .f32 :=
  k0_pay6 (slab x 0) (slab x 1) (slab x 2) (slab x 3) (slab x 4) (slab x 5) (slab x 6) (slab x 7)

/-- The squared length of each column. -/
def colSq (x : Vec F S8x64x576 .f32) : FVec F S4608 .f32 :=
  k0_pay7 (slab x 0) (slab x 1) (slab x 2) (slab x 3) (slab x 4) (slab x 5) (slab x 6) (slab x 7)

/-- The inner product of each code with each column. -/
def inner (x : Vec F S8x64x576 .f32) (e : Vec F S1024x64 .f32) : FVec F S1024x4608 .f32 :=
  k0_pay8 (slab x 0) (slab x 1) (slab x 2) (slab x 3) (slab x 4) (slab x 5) (slab x 6) (slab x 7) e

/-- The one-hot columns: which code is nearest to each pixel. -/
def marks (x : Vec F S8x64x576 .f32) (e : Vec F S1024x64 .f32) (n : Vec F S1024x1 .f32) : FVec F S1024x4608 .bf16 :=
  k0_pay10 (colSq x) (inner x e) (k0_pay9 n)

/-- The chosen codes minus the pixels. -/
def diff (x : Vec F S8x64x576 .f32) (e : Vec F S1024x64 .f32) (et : Vec F S64x1024 .bf16) (n : Vec F S1024x1 .f32) :
    FVec F S64x4608 .f32 :=
  k0_pay11 (cols x) (colSq x) (inner x e) (k0_pay9 n) et

/-- The pixels plus those differences. -/
def moved (x : Vec F S8x64x576 .f32) (e : Vec F S1024x64 .f32) (et : Vec F S64x1024 .bf16) (n : Vec F S1024x1 .f32) :
    FVec F S64x4608 .f32 :=
  k0_pay12 (cols x) (colSq x) (inner x e) (k0_pay9 n) et

/-- The block of images written back: the moved columns, image by image. -/
def image (x : Vec F S8x64x576 .f32) (e : Vec F S1024x64 .f32) (et : Vec F S64x1024 .bf16) (n : Vec F S1024x1 .f32) :
    Vec F S8x64x576 .f32 := fun y =>
  moved x e et n (ix2 (y 1) ⟨(y 0).val * 576 + (y 2).val, by
    have h0 : (y 0).val < 8 := (y 0).isLt
    have h2 : (y 2).val < 576 := (y 2).isLt
    show _ < 4608
    omega⟩)

/-- Image `y 0` of the moved columns, as the kernel cuts it out of them. -/
theorem tile_at (w : FVec F S64x4608 .f32) (o : ℕ) (hs : S64x4608.Slices ![0, o] S64x576)
    (hc : S64x576.ShapeCasts S1x64x576) (y : S8x64x576.Idx) (z : S1x64x576.Idx) (h0 : (y 0).val * 576 = o)
    (h1 : (y 1).val = (z 1).val) (h2 : (y 2).val = (z 2).val) (hb) :
    shapeCast S1x64x576 (extractStridedSlice S64x576 ![0, o] w hs) hc z
      = w (ix2 (y 1) ⟨(y 0).val * 576 + (y 2).val, hb⟩) := by
  idx_vars z
  idx_vars y
  pointwise
  obtain rfl : y1 = z1 := Fin.ext h1
  have e : o + z2.val = y0.val * 576 + y2.val := by omega
  simp only [e]

section Found

variable (c : Dev nD) (i : grid0.Coords)
  (a1 : Memref sig .tc .vmem S8x64x576 .f32) (h1 : a1.IsWhole) (a2 : Memref sig .tc .vmem S1024x64 .f32) (h2 : a2.IsWhole)
  (a3 : Memref sig .tc .vmem S64x1024 .bf16) (h3 : a3.IsWhole) (a4 : Memref sig .tc .vmem S1024x1 .f32) (h4 : a4.IsWhole)
  (a5 : Memref sig .tc .vmem S8x64x576 .f32) (h5 : a5.IsWhole) (a6 : Memref sig .tc .vmem S1x1 .f32) (h6 : a6.IsWhole)
  (a7 : Memref sig .tc .vmem S1x1 .f32) (h7 : a7.IsWhole) (a8 : Memref sig .tc .vmem S1024x4608 .bf16) (h8 : a8.IsWhole)
  (a9 : Memref sig .tc .vmem S1x1 .f32) (h9 : a9.IsWhole)
  (x : Vec F S8x64x576 .f32) (e : Vec F S1024x64 .f32) (et : Vec F S64x1024 .bf16) (n : Vec F S1024x1 .f32)
  (u : Vec F S1024x4608 .bf16) (s : Vec F S1x1 .f32)

/-! ### The first point -/

/-- The block of images the first point writes. -/
theorem imageA (hc0 : cond0_0 i) (hc1 : ¬cond0_1 i) : out0_A_4 c i a1 h1 a2 h2 a3 h3 a4 h4 a5 h5 a6 h6 a7 h7 a8 h8 a9 h9 hc0 hc1 x e et n = image x e et n := by
  funext y
  frame_out
  simp only [ld_slab, Nat.reduceLT, Fin.reduceFinMk]
  canon_tiles z h
  all_goals
    unfold_payloads
    refine tile_at (moved x e et n) _ (by decide) (by decide) y z ?_ h1 h2 _
    omega

/-- The marks the first point leaves: its own, added to the cleared scratch. -/
theorem marksA (hc0 : cond0_0 i) (hc1 : ¬cond0_1 i) :
    sout0_A_0 c i a1 h1 a2 h2 a3 h3 a4 h4 a5 h5 a6 h6 a7 h7 a8 h8 a9 h9 hc0 hc1 x e et n = k0_pay1 (k0_pay23 (marks x e n) k0_pay4) := by
  frame_out [ld_slab, Nat.reduceLT, Fin.reduceFinMk]
  rfl

/-- The sum of squared differences the first point leaves: its own, added to zero. -/
theorem errorA (hc0 : cond0_0 i) (hc1 : ¬cond0_1 i) :
    sout0_A_1 c i a1 h1 a2 h2 a3 h3 a4 h4 a5 h5 a6 h6 a7 h7 a8 h8 a9 h9 hc0 hc1 x e et n = k0_pay22 (diff x e et n) k0_pay5 := by
  frame_out [ld_slab, Nat.reduceLT, Fin.reduceFinMk]
  rfl

/-! ### A middle point -/

/-- The block of images a middle point writes. -/
theorem imageB (hc0 : ¬cond0_0 i) (hc1 : ¬cond0_1 i) : out0_B_4 c i a1 h1 a2 h2 a3 h3 a4 h4 a5 h5 a6 h6 a7 h7 a8 h8 a9 h9 hc0 hc1 x e et n u s = image x e et n := by
  funext y
  frame_out
  simp only [ld_slab, Nat.reduceLT, Fin.reduceFinMk]
  canon_tiles z h
  all_goals
    unfold_payloads
    refine tile_at (moved x e et n) _ (by decide) (by decide) y z ?_ h1 h2 _
    omega

/-- The marks a middle point leaves: its own, added to those it finds. -/
theorem marksB (hc0 : ¬cond0_0 i) (hc1 : ¬cond0_1 i) :
    sout0_B_0 c i a1 h1 a2 h2 a3 h3 a4 h4 a5 h5 a6 h6 a7 h7 a8 h8 a9 h9 hc0 hc1 x e et n u s = k0_pay1 (k0_pay23 (marks x e n) u) := by
  frame_out [ld_slab, Nat.reduceLT, Fin.reduceFinMk]
  rfl

/-- The sum of squared differences a middle point leaves: its own, added to the one it finds. -/
theorem errorB (hc0 : ¬cond0_0 i) (hc1 : ¬cond0_1 i) :
    sout0_B_1 c i a1 h1 a2 h2 a3 h3 a4 h4 a5 h5 a6 h6 a7 h7 a8 h8 a9 h9 hc0 hc1 x e et n u s = k0_pay22 (diff x e et n) s := by
  frame_out [ld_slab, Nat.reduceLT, Fin.reduceFinMk]
  rfl

/-! ### The last point -/

/-- The block of images the last point writes. -/
theorem imageC (hc0 : ¬cond0_0 i) (hc1 : cond0_1 i) : out0_C_4 c i a1 h1 a2 h2 a3 h3 a4 h4 a5 h5 a6 h6 a7 h7 a8 h8 a9 h9 hc0 hc1 x e et n u s = image x e et n := by
  funext y
  frame_out
  simp only [ld_slab, Nat.reduceLT, Fin.reduceFinMk]
  canon_tiles z h
  all_goals
    unfold_payloads
    refine tile_at (moved x e et n) _ (by decide) (by decide) y z ?_ h1 h2 _
    omega

/-- The marks the last point leaves: its own, added to those it finds. -/
theorem marksC (hc0 : ¬cond0_0 i) (hc1 : cond0_1 i) :
    sout0_C_0 c i a1 h1 a2 h2 a3 h3 a4 h4 a5 h5 a6 h6 a7 h7 a8 h8 a9 h9 hc0 hc1 x e et n u s = k0_pay1 (k0_pay23 (marks x e n) u) := by
  frame_out [ld_slab, Nat.reduceLT, Fin.reduceFinMk]
  rfl

/-- The sum of squared differences the last point leaves: its own, added to the one it finds. -/
theorem errorC (hc0 : ¬cond0_0 i) (hc1 : cond0_1 i) :
    sout0_C_1 c i a1 h1 a2 h2 a3 h3 a4 h4 a5 h5 a6 h6 a7 h7 a8 h8 a9 h9 hc0 hc1 x e et n u s = k0_pay22 (diff x e et n) s := by
  frame_out [ld_slab, Nat.reduceLT, Fin.reduceFinMk]
  rfl

/-- The loss the last point stores, made from the finished sum of squared differences. -/
theorem lossC (hc0 : ¬cond0_0 i) (hc1 : cond0_1 i) :
    out0_C_5 c i a1 h1 a2 h2 a3 h3 a4 h4 a5 h5 a6 h6 a7 h7 a8 h8 a9 h9 hc0 hc1 x e et n u s = k0_pay2 (k0_pay22 (diff x e et n) s) := by
  frame_out [ld_slab, Nat.reduceLT, Fin.reduceFinMk]
  rfl

/-- The perplexity the last point stores, made from the finished sum of the marks. -/
theorem perplexityC (hc0 : ¬cond0_0 i) (hc1 : cond0_1 i) :
    out0_C_6 c i a1 h1 a2 h2 a3 h3 a4 h4 a5 h5 a6 h6 a7 h7 a8 h8 a9 h9 hc0 hc1 x e et n u s = k0_pay3 (k0_pay1 (k0_pay23 (marks x e n) u)) := by
  frame_out [ld_slab, Nat.reduceLT, Fin.reduceFinMk]
  rfl

end Found

end Cert.Proof.Block

end
-- ==== Proof.Nearest.lean ====
/-
  The index of the first smallest entry, found in the two ways the two programs find it.

  `First f k` says that `f k` is the smallest of the values `f 0 … f 1023` and that no earlier entry is as small. The
  reference folds a pairwise "keep the smaller, and of equals the earlier" over the pairs (value, index). The kernel
  takes the minimum, puts the index where the minimum is attained and 1024 elsewhere, and takes the minimum again.
  Both name the first smallest entry, whatever the values are (infinities included).
-/
module

public import proofs.«01_k».proof.Defs
public import Idealize.ShloMosaic.Lib.IdealHost
public import Mathlib.Data.Prod.Lex

@[expose] public section

noncomputable section

namespace Cert.Proof

open Idealize.ShloMosaic

/-- `k` is the first index at which `f` is smallest. -/
def First (f : Fin 1024 → EReal) (k : Fin 1024) : Prop := (∀ j, f k ≤ f j) ∧ ∀ j, j < k → f k < f j

/-- One at the first smallest entry, zero elsewhere. -/
def hot (f : Fin 1024 → EReal) (k : Fin 1024) : EReal := open Classical in if First f k then 1 else 0

/-- There is one first smallest entry. -/
theorem First.unique {f : Fin 1024 → EReal} {k l : Fin 1024} (hk : First f k) (hl : First f l) : k = l := by
  rcases lt_trichotomy k l with h | h | h
  · exact absurd (hl.2 k h) (not_lt.mpr (hk.1 l))
  · exact h
  · exact absurd (hk.2 l h) (not_lt.mpr (hl.1 k))

/-! ### The kernel's two minima -/

/-- A value equals the minimum of its family when it is below the whole family. -/
theorem eq_fold_min_iff (f : Fin 1024 → EReal) (k : Fin 1024) :
    f k = Finset.univ.fold min ⊤ f ↔ ∀ j, f k ≤ f j := by
  constructor
  · intro h j
    rw [h]
    exact Finset.fold_min_le (f j) |>.mpr (Or.inr ⟨j, Finset.mem_univ j, le_rfl⟩)
  · intro h
    refine le_antisymm (Finset.le_fold_min (f k) |>.mpr ⟨le_top, fun j _ => h j⟩) ?_
    exact Finset.fold_min_le (f k) |>.mpr (Or.inr ⟨k, Finset.mem_univ k, le_rfl⟩)

/-- The index where the minimum is attained, and 1024 elsewhere. -/
def sel (f : Fin 1024 → EReal) (k : Fin 1024) : EReal :=
  if f k = Finset.univ.fold min ⊤ f then ((k.val : ℝ) : EReal) else ((1024 : ℝ) : EReal)

/-- At a smallest entry, `sel` is the index. -/
theorem sel_of_min {f : Fin 1024 → EReal} {k : Fin 1024} (h : ∀ j, f k ≤ f j) : sel f k = ((k.val : ℝ) : EReal) :=
  if_pos ((eq_fold_min_iff f k).mpr h)

/-- Elsewhere, `sel` is 1024. -/
theorem sel_of_not_min {f : Fin 1024 → EReal} {k : Fin 1024} (h : ¬∀ j, f k ≤ f j) : sel f k = ((1024 : ℝ) : EReal) :=
  if_neg fun e => h ((eq_fold_min_iff f k).mp e)

/-- Indices compare as their values do. -/
theorem coe_idx_le (a b : Fin 1024) : ((a.val : ℝ) : EReal) ≤ ((b.val : ℝ) : EReal) ↔ a ≤ b := by
  rw [EReal.coe_le_coe_iff, Nat.cast_le, Fin.le_def]

/-- Every index is below 1024. -/
theorem coe_idx_lt (a : Fin 1024) : ((a.val : ℝ) : EReal) < ((1024 : ℝ) : EReal) := by
  rw [EReal.coe_lt_coe_iff]
  exact_mod_cast a.isLt

/-- The second minimum is attained at the first smallest entry, and nowhere else. -/
theorem sel_eq_min_iff (f : Fin 1024 → EReal) (k : Fin 1024) :
    sel f k = Finset.univ.fold min ⊤ (sel f) ↔ First f k := by
  rw [eq_fold_min_iff (sel f) k]
  obtain ⟨m, -, hm⟩ := Finset.exists_min_image Finset.univ f ⟨0, Finset.mem_univ _⟩
  have hm' : ∀ j, f m ≤ f j := fun j => hm j (Finset.mem_univ j)
  constructor
  · intro h
    have hk : ∀ j, f k ≤ f j := by
      by_contra hk
      have := h m
      rw [sel_of_not_min hk, sel_of_min hm'] at this
      exact absurd this (not_le.mpr (coe_idx_lt m))
    refine ⟨hk, fun j hj => ?_⟩
    by_contra hjk
    have hj' : ∀ i, f j ≤ f i := fun i => (not_lt.mp hjk).trans (hk i)
    have := h j
    rw [sel_of_min hk, sel_of_min hj', coe_idx_le] at this
    exact absurd hj (not_lt.mpr this)
  · rintro ⟨hk, hlt⟩ j
    rw [sel_of_min hk]
    by_cases hj : ∀ i, f j ≤ f i
    · rw [sel_of_min hj, coe_idx_le]
      by_contra hjk
      exact absurd (hlt j (not_le.mp hjk)) (not_lt.mpr (hj k))
    · rw [sel_of_not_min hj]
      exact (coe_idx_lt k).le

/-! ### The reference's fold -/

/-- The order the fold minimizes: by value, and of equal values by index. -/
def key (p : EReal × BitVec 32) : EReal ×ₗ ℤ := toLex (p.1, p.2.toInt)

/-- Folding any "keep the one with the smaller key" over a list ends at a member of the list (or the start), below
    every member and the start. -/
theorem foldl_keep (step : EReal × BitVec 32 → EReal × BitVec 32 → EReal × BitVec 32)
    (hstep : ∀ a b, step a b = if key a < key b then a else b) (l : List (EReal × BitVec 32)) (p : EReal × BitVec 32) :
    (l.foldl step p = p ∨ l.foldl step p ∈ l) ∧ key (l.foldl step p) ≤ key p
      ∧ ∀ q ∈ l, key (l.foldl step p) ≤ key q := by
  induction l generalizing p with
  | nil => exact ⟨Or.inl rfl, le_rfl, fun q hq => absurd hq List.not_mem_nil⟩
  | cons b l ih =>
    obtain ⟨hmem, hle, hall⟩ := ih (step p b)
    have hs : (step p b = p ∨ step p b = b) ∧ key (step p b) ≤ key p ∧ key (step p b) ≤ key b := by
      rw [hstep]
      split
      · next h => exact ⟨Or.inl rfl, le_rfl, h.le⟩
      · next h => exact ⟨Or.inr rfl, not_lt.mp h, le_rfl⟩
    rw [List.foldl_cons]
    refine ⟨?_, hle.trans hs.2.1, fun q hq => ?_⟩
    · rcases hmem with h | h
      · rcases hs.1 with e | e
        · exact Or.inl (h.trans e)
        · exact Or.inr (by rw [h, e]; exact List.mem_cons_self)
      · exact Or.inr (List.mem_cons_of_mem _ h)
    · rcases List.mem_cons.mp hq with rfl | hq
      · exact hle.trans hs.2.2
      · exact hall q hq

/-- An index survives its 32-bit word, read as a signed number. -/
theorem toInt_idx (k : Fin 1024) : (BitVec.ofNat 32 k.val).toInt = (k.val : ℤ) := by
  have := k.isLt
  rw [BitVec.toInt_eq_toNat_of_lt] <;> simp [BitVec.toNat_ofNat] <;> omega

/-- The order on keys, spelt out. -/
theorem key_le_iff (p q : EReal × BitVec 32) : key p ≤ key q ↔ p.1 < q.1 ∨ p.1 = q.1 ∧ p.2.toInt ≤ q.2.toInt :=
  Prod.Lex.le_iff

/-- Over the pairs (value, index) of a family, started at (+∞, 0), the fold ends at the first smallest entry. -/
theorem foldl_first (step : EReal × BitVec 32 → EReal × BitVec 32 → EReal × BitVec 32)
    (hstep : ∀ a b, step a b = if key a < key b then a else b) (f : Fin 1024 → EReal) (l : List (EReal × BitVec 32))
    (hl : ∀ p, p ∈ l ↔ ∃ k : Fin 1024, p = (f k, BitVec.ofNat 32 k.val)) :
    ∃ k : Fin 1024, (l.foldl step (⊤, 0#32)).2 = BitVec.ofNat 32 k.val ∧ First f k := by
  obtain ⟨hmem, -, hall⟩ := foldl_keep step hstep l (⊤, 0#32)
  have hall' : ∀ j : Fin 1024, key (l.foldl step (⊤, 0#32)) ≤ key (f j, BitVec.ofNat 32 j.val) :=
    fun j => hall _ ((hl _).mpr ⟨j, rfl⟩)
  obtain ⟨k, hk⟩ : ∃ k : Fin 1024, l.foldl step (⊤, 0#32) = (f k, BitVec.ofNat 32 k.val) := by
    rcases hmem with h | h
    · refine ⟨0, ?_⟩
      have h0 := hall' 0
      rw [h, key_le_iff] at h0
      have e : (⊤ : EReal) = f 0 := by
        rcases h0 with h0 | h0
        · exact absurd h0 not_top_lt
        · exact h0.1
      rw [h, ← e]
      rfl
    · exact (hl _).mp h
  refine ⟨k, by rw [hk], fun j => ?_, fun j hj => ?_⟩
  · have := hall' j
    rw [hk, key_le_iff] at this
    rcases this with h | h
    · exact le_of_lt h
    · exact le_of_eq h.1
  · have := hall' j
    rw [hk, key_le_iff] at this
    rcases this with h | h
    · exact h
    · have h2 : (BitVec.ofNat 32 k.val).toInt ≤ (BitVec.ofNat 32 j.val).toInt := h.2
      rw [toInt_idx, toInt_idx] at h2
      have : j.val < k.val := hj
      omega

end Cert.Proof

end
-- ==== Proof.Spec.lean ====
/-
  The quantizer in plain mathematics, over the extended reals: what both programs are shown to compute.
-/
module

public import proofs.«01_k».proof.Proof.Nearest
public import Idealize.ShloMosaic.Lib.Pointwise

@[expose] public section

noncomputable section

namespace Cert.Proof

open Idealize.ShloMosaic

/-- The squared distance from each code of the table `E` to the pixel `p`, expanded. -/
def dist (E : Fin 1024 → Fin 64 → EReal) (p : Fin 64 → EReal) (k : Fin 1024) : EReal :=
  (∑ d, E k d * E k d + ∑ d, p d * p d) - ((2 : ℝ) : EReal) * ∑ d, E k d * p d

/-- Which code is nearest to the pixel: one at that code, zero at the others. -/
def choice (E : Fin 1024 → Fin 64 → EReal) (p : Fin 64 → EReal) : Fin 1024 → EReal := hot (dist E p)

/-- The nearest code, as the table times the choice. -/
def code (E : Fin 1024 → Fin 64 → EReal) (p : Fin 64 → EReal) (d : Fin 64) : EReal := ∑ k, E k d * choice E p k

/-- The nearest code minus the pixel. -/
def err (E : Fin 1024 → Fin 64 → EReal) (p : Fin 64 → EReal) (d : Fin 64) : EReal := code E p d - p d

/-- The loss out of the sum of all squared errors: the mean, plus a quarter of it. -/
def lossOf (s : EReal) : EReal :=
  Ideal.div s (Ideal.ofBits .f32 0x4A100000#32)
    + Ideal.ofBits .f32 0x3E800000#32 * Ideal.div s (Ideal.ofBits .f32 0x4A100000#32)

/-- How often a code is chosen, out of the number of pixels that choose it. -/
def share (cnt : EReal) : EReal := Ideal.div cnt (Ideal.ofBits .f32 0x47100000#32)

/-- The perplexity out of how many pixels choose each code. -/
def perplexityOf (cnt : Fin 1024 → EReal) : EReal :=
  Ideal.exp (-∑ k, share (cnt k) * Ideal.log (share (cnt k) + Ideal.ofBits .f32 0x2EDBE6FF#32))

/-- Pixel `q` of image `b`, its 24 rows of 24 pixels counted through. -/
def pixelOf (X : (⟨4, ![64, 64, 24, 24]⟩ : Shape).Idx → EReal) (b : Fin 64) (q : Fin 576) : Fin 64 → EReal :=
  fun d => X (ix4 b d ⟨q.val / 24, by omega⟩ ⟨q.val % 24, by omega⟩)

/-- An array of codes as a table. -/
def tableOf (E : (⟨2, ![1024, 64]⟩ : Shape).Idx → EReal) : Fin 1024 → Fin 64 → EReal := fun k d => E (ix2 k d)

/-- The sum of all squared errors. -/
def errorSum (X : (⟨4, ![64, 64, 24, 24]⟩ : Shape).Idx → EReal) (E : (⟨2, ![1024, 64]⟩ : Shape).Idx → EReal) : EReal :=
  ∑ b, ∑ q, ∑ d, err (tableOf E) (pixelOf X b q) d * err (tableOf E) (pixelOf X b q) d

/-- How many pixels choose code `k`. -/
def countOf (X : (⟨4, ![64, 64, 24, 24]⟩ : Shape).Idx → EReal) (E : (⟨2, ![1024, 64]⟩ : Shape).Idx → EReal)
    (k : Fin 1024) : EReal :=
  ∑ b, ∑ q, choice (tableOf E) (pixelOf X b q) k

/-- The images with every pixel moved by its error. -/
def movedImages (X : (⟨4, ![64, 64, 24, 24]⟩ : Shape).Idx → EReal) (E : (⟨2, ![1024, 64]⟩ : Shape).Idx → EReal) :
    (⟨4, ![64, 64, 24, 24]⟩ : Shape).Idx → EReal := fun j =>
  X (ix4 (j 0) (j 1) (j 2) (j 3)) + err (tableOf E)
    (pixelOf X (j 0) ⟨(j 2).val * 24 + (j 3).val, by
      have h2 : (j 2).val < 24 := (j 2).isLt
      have h3 : (j 3).val < 24 := (j 3).isLt
      omega⟩) (j 1)

/-- The f32 pattern of two. -/
theorem ofBits_two_f32 : Ideal.ofBits .f32 0x40000000#32 = ((2 : ℝ) : EReal) := by
  simp [Ideal.ofBits, Ideal.ieee, -EReal.coe_mul]
  norm_num

/-- The f32 pattern of 1024. -/
theorem ofBits_1024_f32 : Ideal.ofBits .f32 0x44800000#32 = ((1024 : ℝ) : EReal) := by
  simp [Ideal.ofBits, Ideal.ieee, -EReal.coe_mul]
  norm_num

/-- The f32 pattern of infinity. -/
theorem ofBits_top_f32 : Ideal.ofBits .f32 0x7F800000#32 = ⊤ := by
  simp [Ideal.ofBits, Ideal.ieee]

end Cert.Proof

end
-- ==== Proof.BlockValue.lean ====
/-
  The kernel's payloads over the extended reals, read one entry at a time: column `i * 576 + q` of a block belongs to
  pixel `q` of its image `i`, its marks are that pixel's choice, and its difference is that pixel's error.
-/
module

public import proofs.«01_k».proof.Proof.BlockRead
public import proofs.«01_k».proof.Proof.Spec

@[expose] public section

set_option maxRecDepth 16384

noncomputable section

namespace Cert.Proof.Block

open Idealize.ShloMosaic Idealize.ShloMosaic.TcCoe Idealize.SL.Sem
open Cert.KernelIdeal Cert.KernelIdeal.Gen

/-- A [1024, 64] array as a table of codes. -/
def table (e : Vec Ideal S1024x64 .f32) : Fin 1024 → Fin 64 → EReal := fun k d => e (ix2 k d)

/-- Pixel `q` of image `i` of a block. -/
def pixel (x : Vec Ideal S8x64x576 .f32) (i : Fin 8) (q : Fin 576) : Fin 64 → EReal := fun d => x (ix3 i d q)

/-- The column that pixel `q` of image `i` becomes. -/
def col (i : Fin 8) (q : Fin 576) : Fin 4608 := ⟨i.val * 576 + q.val, by omega⟩

variable (x : Vec Ideal S8x64x576 .f32) (e : Vec Ideal S1024x64 .f32) (et : Vec Ideal S64x1024 .bf16)
  (n : Vec Ideal S1024x1 .f32)

/-- Entries of a block at equal coordinates are equal. -/
theorem at_image {x : Vec Ideal S8x64x576 .f32} {a i : Fin 8} {r q : Fin 576} (d : Fin 64) (ha : a.val = i.val)
    (hr : r.val = q.val) : x (ix3 a d r) = x (ix3 i d q) := by
  rw [Fin.ext ha, Fin.ext hr]

/-- Column `i * 576 + q` is pixel `q` of image `i`. -/
theorem cols_apply (i : Fin 8) (q : Fin 576) (d : Fin 64) : cols x (ix2 d (col i q)) = pixel x i q d := by
  have hq := q.isLt
  have hi := i.isLt
  unfold cols k0_pay6 slab col pixel
  pointwise
  split_ifs
  all_goals
    refine at_image d ?_ ?_
    · simp only [Fin.isValue, Fin.coe_ofNat_eq_mod]
      omega
    · dsimp only
      omega

/-- The squared length of a column is that of its pixel. -/
theorem colSq_apply (i : Fin 8) (q : Fin 576) :
    colSq x (ix1 (col i q)) = ∑ d, pixel x i q d * pixel x i q d := by
  simp only [← cols_apply]
  unfold colSq k0_pay7 cols
  pointwise

/-- The inner products are those of the codes with the pixels. -/
theorem inner_apply (i : Fin 8) (q : Fin 576) (k : Fin 1024) :
    inner x e (ix2 k (col i q)) = ∑ d, table e k d * pixel x i q d := by
  simp only [← cols_apply]
  unfold inner k0_pay8 cols table
  pointwise

variable (hn : ∀ k, n (ix2 k 0) = ∑ d, table e k d * table e k d) (het : ∀ d k, et (ix2 d k) = table e k d)

include hn in
/-- The kernel's distances are the distances. -/
theorem dist_apply (i : Fin 8) (q : Fin 576) (k : Fin 1024) :
    n (ix2 k 0) + colSq x (ix1 (col i q)) - Ideal.ofBits .f32 0x40000000#32 * inner x e (ix2 k (col i q))
      = dist (table e) (pixel x i q) k := by
  rw [hn, colSq_apply, inner_apply, ofBits_two_f32]
  rfl

/-- A truth value turned into a float over the extended reals: one or zero. -/
theorem sitofp_decide (p : Prop) [Decidable p] :
    (FloatOps.sitofp .f32 (BitVec.setWidth 32 (BitVec.ofBool (decide p))) : Ideal .f32) = if p then 1 else 0 := by
  show (((BitVec.setWidth 32 (BitVec.ofBool (decide p))).toInt : ℝ) : EReal) = _
  by_cases h : p <;> simp [h]

/-- An index turned into a float over the extended reals. -/
theorem sitofp_idx (k : Fin 1024) : (FloatOps.sitofp .f32 (BitVec.ofNat 32 k.val) : Ideal .f32) = ((k.val : ℝ) : EReal) := by
  show (((BitVec.ofNat 32 k.val).toInt : ℝ) : EReal) = _
  rw [toInt_idx]
  norm_cast

include hn in
/-- A column's marks are its pixel's choice: one at the first of the nearest codes, zero elsewhere. -/
theorem marks_apply (i : Fin 8) (q : Fin 576) (k : Fin 1024) :
    marks x e n (ix2 k (col i q)) = choice (table e) (pixel x i q) k := by
  have hs : ∀ k : Fin 1024, (if dist (table e) (pixel x i q) k = Finset.univ.fold min ⊤ (dist (table e) (pixel x i q))
      then ((k.val : ℝ) : EReal) else ((1024 : ℝ) : EReal)) = sel (dist (table e) (pixel x i q)) k := fun _ => rfl
  unfold marks k0_pay10 k0_pay9
  pointwise
  rw [sitofp_decide]
  simp only [dist_apply x e n hn, ofBits_top_f32, ofBits_1024_f32, sitofp_idx, hs]
  unfold choice hot
  classical exact if_congr (sel_eq_min_iff _ k) rfl rfl

include hn het in
/-- A column's difference is its pixel's error. -/
theorem diff_apply (i : Fin 8) (q : Fin 576) (d : Fin 64) :
    diff x e et n (ix2 d (col i q)) = err (table e) (pixel x i q) d := by
  have hm : ∀ k, k0_pay10 (colSq x) (inner x e) (k0_pay9 n) (ix2 k (col i q)) = choice (table e) (pixel x i q) k :=
    marks_apply x e n hn i q
  unfold diff k0_pay11
  pointwise
  simp only [hm, het, cols_apply]
  rfl

include hn het in
/-- The block of images written back: each pixel plus its error. -/
theorem image_apply (i : Fin 8) (d : Fin 64) (q : Fin 576) :
    image x e et n (ix3 i d q) = x (ix3 i d q) + err (table e) (pixel x i q) d := by
  have h : image x e et n (ix3 i d q) = cols x (ix2 d (col i q)) + diff x e et n (ix2 d (col i q)) := by
    show moved x e et n (ix2 d (col i q)) = _
    rfl
  rw [h, cols_apply, diff_apply x e et n hn het]
  rfl

include hn het in
/-- The sum of squared errors grows by the block's. -/
theorem error_apply (s : Vec Ideal S1x1 .f32) :
    k0_pay22 (diff x e et n) s (ix2 0 0)
      = s (ix2 0 0) + ∑ i : Fin 8, ∑ q : Fin 576, ∑ d, err (table e) (pixel x i q) d * err (table e) (pixel x i q) d := by
  have h : k0_pay22 (diff x e et n) s (ix2 0 0)
      = s (ix2 0 0) + ∑ d, ∑ w, diff x e et n (ix2 d w) * diff x e et n (ix2 d w) := by
    unfold k0_pay22
    pointwise
  rw [h]
  congr 1
  rw [Finset.sum_comm, Fin.sum_univ_tiles 8 576 rfl]
  refine Finset.sum_congr rfl fun i _ => Finset.sum_congr rfl fun q _ => Finset.sum_congr rfl fun d _ => ?_
  have := diff_apply x e et n hn het i q d
  unfold col at this
  rw [this]

/-- The sum of the marks grows by the block's, column by column. -/
theorem count_apply (v : FVec Ideal S1024x4608 .bf16) (u : Vec Ideal S1024x4608 .bf16) (k : Fin 1024) (w : Fin 4608) :
    k0_pay1 (k0_pay23 v u) (ix2 k w) = u (ix2 k w) + v (ix2 k w) := by
  unfold k0_pay1 k0_pay23
  pointwise

/-- The loss stored is that of the sum of squared errors found. -/
theorem loss_apply (s : Vec Ideal S1x1 .f32) : k0_pay2 s (ix2 0 0) = lossOf (s (ix2 0 0)) := by
  unfold k0_pay2 lossOf
  pointwise

/-- The perplexity stored is that of the marks found, summed over the columns. -/
theorem perplexity_apply (u : Vec Ideal S1024x4608 .bf16) :
    k0_pay3 u (ix2 0 0) = perplexityOf fun k => ∑ i : Fin 8, ∑ q : Fin 576, u (ix2 k (col i q)) := by
  have hc : ∀ k, ∑ w, u (ix2 k w) = ∑ i : Fin 8, ∑ q : Fin 576, u (ix2 k (col i q)) :=
    fun k => Fin.sum_univ_tiles 8 576 rfl _
  unfold k0_pay3 perplexityOf share
  pointwise
  simp only [hc, zero_sub]
  rfl

/-- The scratches as the first point clears them. -/
theorem zero_marks (k : Fin 1024) (w : Fin 4608) : (k0_pay4 : FVec Ideal S1024x4608 .bf16) (ix2 k w) = 0 := by
  unfold k0_pay4
  pointwise

/-- The sum of squared errors as the first point clears it. -/
theorem zero_error : (k0_pay5 : FVec Ideal S1x1 .f32) (ix2 0 0) = 0 := by
  unfold k0_pay5
  pointwise

end Cert.Proof.Block

end
-- ==== Proof.EntryRead.lean ====
/-
  What the kernel's four input windows hold at each grid point, in terms of the program's two arguments.

  Before the grid runs, the program lays each image's 24 × 24 pixels out in one row of 576, transposes the code table,
  and sums the squares of each code. Point `t` of the grid then sees images `8 t … 8 t + 7` and the whole of the rest.
-/
module

public import proofs.«01_k».proof.Proof.BlockValue
public import Idealize.ShloMosaic.Lib.StableHlo.ReadAt

@[expose] public section

set_option maxRecDepth 16384

noncomputable section

namespace Cert.Proof.Block

open Idealize.ShloMosaic Idealize.ShloMosaic.TcCoe Idealize.SL.Sem
open Cert.KernelIdeal Cert.KernelIdeal.Gen

variable (m : (b : Loc nD τ sig) → Buf (Elt Ideal) b) (c : Dev nD)

/-- The images the program is given. -/
abbrev images : FVec Ideal S64x64x24x24 .f32 := m ((c : Thread nD τ).loc main_arg0)

/-- The code table the program is given. -/
abbrev codes : FVec Ideal S1024x64 .f32 := m ((c : Thread nD τ).loc main_arg1)

/-- The images in rows of 576 pixels, as the program lays them out before the grid. -/
theorem entry_images (b d : Fin 64) (s : Fin 576) :
    (V m c main_call0_v0 : FVec Ideal S64x64x576 .f32) (ix3 b d s) = images m c (ix4 b d ⟨s.val / 24, by omega⟩ ⟨s.val % 24, by omega⟩) := by
  unfold V V0 hostOps0
  after_reads_at

/-- The transposed code table. Its rounding to bf16 is the identity over the extended reals. -/
theorem entry_transposed (d : Fin 64) (k : Fin 1024) :
    (V m c main_call0_v2 : FVec Ideal S64x1024 .bf16) (ix2 d k) = table (codes m c) k d := by
  unfold V V0 hostOps0
  after_reads_at
  rfl

/-- The squared lengths of the codes. -/
theorem entry_squares (k : Fin 1024) :
    (V m c main_call0_v5 : FVec Ideal S1024x1 .f32) (ix2 k 0) = ∑ d, table (codes m c) k d * table (codes m c) k d := by
  unfold V V0 hostOps0
  after_reads_at
  rfl

/-- Which block each input window takes at each point. -/
theorem index_in : ∀ t : Fin cfg0.N,
    (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ (win0_3.index t 0 = 0 ∧ win0_3.index t 1 = 0) :=
  (by decide +kernel : ∀ t : Fin grid0.N, _)

/-- Pixel `q` of image `b`. -/
def imagePixel (b : Fin 64) (q : Fin 576) : Fin 64 → EReal :=
  fun d => images m c (ix4 b d ⟨q.val / 24, by omega⟩ ⟨q.val % 24, by omega⟩)

/-- The block of images at point `t`. -/
abbrev blockX (t : Fin cfg0.N) : Vec Ideal S8x64x576 .f32 := iblk m c 0 t
/-- The code table at point `t`. -/
abbrev blockE (t : Fin cfg0.N) : Vec Ideal S1024x64 .f32 := iblk m c 1 t
/-- The transposed code table at point `t`. -/
abbrev blockT (t : Fin cfg0.N) : Vec Ideal S64x1024 .bf16 := iblk m c 2 t
/-- The squared lengths of the codes at point `t`. -/
abbrev blockN (t : Fin cfg0.N) : Vec Ideal S1024x1 .f32 := iblk m c 3 t

/-- The image that is number `i` of point `t`'s eight. -/
def imageOf (t : Fin cfg0.N) (i : Fin 8) : Fin 64 :=
  ⟨t.val * 8 + i.val, by have := Nat.lt_of_lt_of_eq t.isLt N_0; omega⟩

/-- Pixel `q` of the `i`-th image of point `t`'s block. -/
theorem pixel_block (t : Fin cfg0.N) (i : Fin 8) (q : Fin 576) : pixel (blockX m c t) i q = imagePixel m c (imageOf t i) q := by
  funext d
  unfold imagePixel
  rw [← entry_images]
  show iblk m c 0 t (ix3 i d q) = _
  unfold iblk
  rw [View.read_apply]
  show V m c main_call0_v0 _ = _
  obtain ⟨⟨e0, e1, e2⟩, -⟩ := index_in t
  congr 1
  funext a
  apply Fin.ext
  match a with
  | 0 => show win0_0.index t 0 * 8 + 1 * i.val = t.val * 8 + i.val; rw [e0]; omega
  | 1 => show win0_0.index t 1 * 64 + 1 * d.val = d.val; rw [e1]; omega
  | 2 => show win0_0.index t 2 * 576 + 1 * q.val = q.val; rw [e2]; omega

/-- Every point sees the whole code table. -/
theorem table_block (t : Fin cfg0.N) : table (blockE m c t) = table (codes m c) := by
  funext k d
  unfold table
  show iblk m c 1 t (ix2 k d) = codes m c (ix2 k d)
  unfold codes iblk
  rw [View.read_apply, ← V_main_arg1 m c]
  show V m c main_arg1 _ = _
  obtain ⟨-, ⟨e0, e1⟩, -⟩ := index_in t
  congr 1
  funext a
  apply Fin.ext
  match a with
  | 0 => show win0_1.index t 0 * 1024 + 1 * k.val = k.val; rw [e0]; omega
  | 1 => show win0_1.index t 1 * 64 + 1 * d.val = d.val; rw [e1]; omega

/-- Every point sees the whole transposed table. -/
theorem transposed_block (t : Fin cfg0.N) (d : Fin 64) (k : Fin 1024) :
    blockT m c t (ix2 d k) = table (blockE m c t) k d := by
  rw [table_block, ← entry_transposed]
  show iblk m c 2 t (ix2 d k) = _
  unfold iblk
  rw [View.read_apply]
  show V m c main_call0_v2 _ = _
  obtain ⟨-, -, ⟨e0, e1⟩, -⟩ := index_in t
  congr 1
  funext a
  apply Fin.ext
  match a with
  | 0 => show win0_2.index t 0 * 64 + 1 * d.val = d.val; rw [e0]; omega
  | 1 => show win0_2.index t 1 * 1024 + 1 * k.val = k.val; rw [e1]; omega

/-- Every point sees all the squared lengths. -/
theorem squares_block (t : Fin cfg0.N) (k : Fin 1024) :
    blockN m c t (ix2 k 0) = ∑ d, table (blockE m c t) k d * table (blockE m c t) k d := by
  rw [table_block, ← entry_squares]
  show iblk m c 3 t (ix2 k 0) = _
  unfold iblk
  rw [View.read_apply]
  show V m c main_call0_v5 _ = _
  obtain ⟨-, -, -, ⟨e0, e1⟩⟩ := index_in t
  congr 1
  funext a
  apply Fin.ext
  match a with
  | 0 => show win0_3.index t 0 * 1024 + 1 * k.val = k.val; rw [e0]; omega
  | 1 => show win0_3.index t 1 * 1 + 1 * 0 = 0; rw [e1]

end Cert.Proof.Block

end
-- ==== Proof.GridState.lean ====
/-
  What the two scratch buffers and the output blocks hold after each grid point: the sums over the points so far.
-/
module

public import proofs.«01_k».proof.Proof.EntryRead

@[expose] public section

noncomputable section

namespace Cert.Proof.Block

open Idealize.ShloMosaic Idealize.ShloMosaic.TcCoe Idealize.SL.Sem
open Cert.KernelIdeal Cert.KernelIdeal.Gen

variable (m : (b : Loc nD τ sig) → Buf (Elt Ideal) b) (c : Dev nD)

/-- The squared error of pixel `q` of image `b`. -/
def pixelError (b : Fin 64) (q : Fin 576) : EReal :=
  ∑ d, err (table (codes m c)) (imagePixel m c b q) d * err (table (codes m c)) (imagePixel m c b q) d

/-- Whether pixel `q` of image `b` chooses code `k`. -/
def pixelChoice (b : Fin 64) (q : Fin 576) (k : Fin 1024) : EReal := choice (table (codes m c)) (imagePixel m c b q) k

/-- The squared error of the eight images of point `t`. -/
def pointError (t : Fin cfg0.N) : EReal := ∑ i, ∑ q, pixelError m c (imageOf t i) q

/-- Point `t` adds the squared error of its eight images. -/
theorem point_error (t : Fin cfg0.N) (s : Vec Ideal S1x1 .f32) :
    k0_pay22 (diff (blockX m c t) (blockE m c t) (blockT m c t) (blockN m c t)) s (ix2 0 0)
      = s (ix2 0 0) + pointError m c t := by
  rw [error_apply _ _ _ _ (squares_block m c t) (transposed_block m c t)]
  simp only [table_block, pixel_block]
  rfl

/-- Point `t` adds the choices of its pixels, column by column. -/
theorem point_marks (t : Fin cfg0.N) (u : Vec Ideal S1024x4608 .bf16) (i : Fin 8) (q : Fin 576) (k : Fin 1024) :
    k0_pay1 (k0_pay23 (marks (blockX m c t) (blockE m c t) (blockN m c t)) u) (ix2 k (col i q))
      = u (ix2 k (col i q)) + pixelChoice m c (imageOf t i) q k := by
  rw [count_apply, marks_apply _ _ _ (squares_block m c t), table_block, pixel_block]
  rfl

/-- Point `t` writes each pixel plus its error. -/
theorem point_image (t : Fin cfg0.N) (i : Fin 8) (d : Fin 64) (q : Fin 576) :
    image (blockX m c t) (blockE m c t) (blockT m c t) (blockN m c t) (ix3 i d q)
      = imagePixel m c (imageOf t i) q d + err (table (codes m c)) (imagePixel m c (imageOf t i) q) d := by
  rw [image_apply _ _ _ _ (squares_block m c t) (transposed_block m c t), table_block, pixel_block]
  congr 1
  exact congrFun (pixel_block m c t i q) d

/-- The scratches after point `n`: the sums over the points up to it. -/
theorem scratch (n : ℕ) (hn : n < cfg0.N) :
    (outsAt0 m c n hn).2.2.2.2 (ix2 0 0) = ∑ g : Fin (n + 1), pointError m c ⟨g.val, by omega⟩
    ∧ ∀ (i : Fin 8) (q : Fin 576) (k : Fin 1024), (outsAt0 m c n hn).2.2.2.1 (ix2 k (col i q))
        = ∑ g : Fin (n + 1), pixelChoice m c (imageOf ⟨g.val, by omega⟩ i) q k := by
  induction n with
  | zero =>
    rw [outsAt0_A m c ⟨0, hn⟩ rfl (by show ¬0 % 8 = 7; decide)]
    dsimp only
    rw [errorA, marksA]
    refine ⟨?_, fun i q k => ?_⟩
    · rw [Fin.sum_univ_one]
      exact (point_error m c ⟨0, hn⟩ _).trans (by rw [zero_error, zero_add]; rfl)
    · rw [Fin.sum_univ_one]
      exact (point_marks m c ⟨0, hn⟩ _ i q k).trans (by rw [zero_marks, zero_add]; rfl)
  | succ n ih =>
    obtain ⟨ih1, ih2⟩ := ih (Nat.lt_of_succ_lt hn)
    have h8 : n + 1 < 8 := Nat.lt_of_lt_of_eq hn N_0
    have h0 : ¬(⟨n + 1, hn⟩ : Fin cfg0.N).val % 8 = 0 := by dsimp only; omega
    by_cases h1 : (⟨n + 1, hn⟩ : Fin cfg0.N).val % 8 = 7
    · rw [outsAt0_C m c ⟨n + 1, hn⟩ h0 h1]
      dsimp only
      rw [errorC, marksC]
      refine ⟨?_, fun i q k => ?_⟩
      · rw [Fin.sum_univ_castSucc]
        exact (point_error m c ⟨n + 1, hn⟩ _).trans (congrArg (· + _) ih1)
      · rw [Fin.sum_univ_castSucc]
        exact (point_marks m c ⟨n + 1, hn⟩ _ i q k).trans (congrArg (· + _) (ih2 i q k))
    · rw [outsAt0_B m c ⟨n + 1, hn⟩ h0 h1]
      dsimp only
      rw [errorB, marksB]
      refine ⟨?_, fun i q k => ?_⟩
      · rw [Fin.sum_univ_castSucc]
        exact (point_error m c ⟨n + 1, hn⟩ _).trans (congrArg (· + _) ih1)
      · rw [Fin.sum_univ_castSucc]
        exact (point_marks m c ⟨n + 1, hn⟩ _ i q k).trans (congrArg (· + _) (ih2 i q k))

/-- The block of images each point writes back. -/
theorem written_image (t : Fin cfg0.N) :
    (outsAt0 m c t.val t.isLt).1 = image (blockX m c t) (blockE m c t) (blockT m c t) (blockN m c t) := by
  by_cases h0 : t.val % 8 = 0
  · rw [outsAt0_A m c t h0 (by omega)]
    dsimp only
    rw [imageA]
  · by_cases h1 : t.val % 8 = 7
    · rw [outsAt0_C m c t h0 h1]
      dsimp only
      rw [imageC]
    · rw [outsAt0_B m c t h0 h1]
      dsimp only
      rw [imageB]

/-- What the last point stores: the loss and the perplexity of what it leaves in the scratches. -/
theorem written_last (t : Fin cfg0.N) (h1 : t.val % 8 = 7) :
    (outsAt0 m c t.val t.isLt).2.1 = k0_pay2 (outsAt0 m c t.val t.isLt).2.2.2.2
    ∧ (outsAt0 m c t.val t.isLt).2.2.1 = k0_pay3 (outsAt0 m c t.val t.isLt).2.2.2.1 := by
  rw [outsAt0_C m c t (by omega) h1]
  dsimp only
  rw [errorC, marksC, lossC, perplexityC]
  exact ⟨rfl, rfl⟩

/-- The sum of all squared errors. -/
def totalError : EReal := ∑ b, ∑ q, pixelError m c b q

/-- How many pixels choose code `k`. -/
def count (k : Fin 1024) : EReal := ∑ b, ∑ q, pixelChoice m c b q k

/-- The eight points of eight images are the sixty-four images. -/
theorem sum_points (f : Fin 64 → EReal) (t : Fin cfg0.N) (h1 : t.val % 8 = 7) :
    ∑ g : Fin (t.val + 1), ∑ i, f (imageOf ⟨g.val, by omega⟩ i) = ∑ b, f b := by
  have ht : t.val = 7 := by have := Nat.lt_of_lt_of_eq t.isLt N_0; omega
  obtain ⟨n, hn⟩ := t
  subst ht
  rw [Fin.sum_univ_tiles 8 8 rfl f]
  rfl

/-- The last point stores the loss of the sum of all squared errors. -/
theorem loss_last (t : Fin cfg0.N) (h1 : t.val % 8 = 7) :
    (outsAt0 m c t.val t.isLt).2.1 (ix2 0 0) = lossOf (totalError m c) := by
  rw [(written_last m c t h1).1, loss_apply, (scratch m c t.val t.isLt).1]
  unfold pointError
  rw [sum_points (fun b => ∑ q, pixelError m c b q) t h1]
  rfl

/-- The last point stores the perplexity of all pixels' choices. -/
theorem perplexity_last (t : Fin cfg0.N) (h1 : t.val % 8 = 7) :
    (outsAt0 m c t.val t.isLt).2.2.1 (ix2 0 0) = perplexityOf (count m c) := by
  rw [(written_last m c t h1).2, perplexity_apply]
  congr 1
  funext k
  simp only [(scratch m c t.val t.isLt).2]
  unfold count
  rw [← sum_points (fun b => ∑ q, pixelChoice m c b q k) t h1]
  refine Eq.trans ?_ Finset.sum_comm
  exact Finset.sum_congr rfl fun i _ => Finset.sum_comm

end Cert.Proof.Block

end
-- ==== Proof.KernelRun.lean ====
/-
  What the kernel's program returns over the extended reals.
-/
module

public import proofs.«01_k».proof.Proof.GridState

@[expose] public section

set_option maxRecDepth 16384

noncomputable section

namespace Cert.Proof.Block

open Idealize.ShloMosaic Idealize.ShloMosaic.TcCoe Idealize.SL.Sem
open Cert.KernelIdeal Cert.KernelIdeal.Gen

variable (m : (b : Loc nD τ sig) → Buf (Elt Ideal) b) (ρ : Dev nD → PrngReg) (c : Dev nD)

/-- The images moved onto their codes, each image's pixels in one row. -/
def movedRows : FVec Ideal S64x64x576 .f32 := fun y =>
  imagePixel m c (y 0) (y 2) (y 1) + err (table (codes m c)) (imagePixel m c (y 0) (y 2)) (y 1)

/-- Which block of images each point writes. -/
theorem index_out : ∀ t : Fin cfg0.N, win0_4.index t 0 = t.val ∧ win0_4.index t 1 = 0 ∧ win0_4.index t 2 = 0 :=
  (by decide +kernel : ∀ t : Fin grid0.N, _)

/-- After the grid, the array of images holds the moved images. -/
theorem final_image : (dats m 0 c).arrAt 4 cfg0.N = movedRows m c := by
  refine (dats m 0 c).arrAt_eq_of_covers 4 _ (by decide +kernel) fun t hf y => ?_
  blk_simp
  rw [after0_4, written_image]
  obtain ⟨i, d, q, rfl⟩ : ∃ (i : Fin 8) (d : Fin 64) (q : Fin 576), y = ix3 i d q := ⟨y 0, y 1, y 2, eq_ix3 y⟩
  refine (point_image m c t i d q).trans ?_
  obtain ⟨e0, e1, e2⟩ := index_out t
  have h : (win0_4.blk t).view.emb (ix3 i d q) = ix3 (imageOf t i) d q := by
    funext a
    apply Fin.ext
    match a with
    | 0 => show win0_4.index t 0 * 8 + 1 * i.val = t.val * 8 + i.val; rw [e0]; omega
    | 1 => show win0_4.index t 1 * 64 + 1 * d.val = d.val; rw [e1]; omega
    | 2 => show win0_4.index t 2 * 576 + 1 * q.val = q.val; rw [e2]; omega
  rw [h]
  rfl

/-- A [1, 1] array has one index. -/
theorem one_index (y : S1x1.Idx) : y = ix2 0 0 := by
  rw [eq_ix2 y]
  exact congrArg₂ ix2 (Subsingleton.elim _ _) (Subsingleton.elim _ _)

/-- After the grid, the [1, 1] loss array holds the loss. -/
theorem final_loss : (dats m 0 c).arrAt 5 cfg0.N = fun _ => lossOf (totalError m c) := by
  refine (dats m 0 c).arrAt_eq_of_covers 5 _ (by decide +kernel) fun t hf y => ?_
  blk_simp
  rw [after0_5, one_index y]
  exact loss_last m c t ((flush0_5 t).mp hf)

/-- After the grid, the [1, 1] perplexity array holds the perplexity. -/
theorem final_perplexity : (dats m 0 c).arrAt 6 cfg0.N = fun _ => perplexityOf (count m c) := by
  refine (dats m 0 c).arrAt_eq_of_covers 6 _ (by decide +kernel) fun t hf y => ?_
  blk_simp
  rw [after0_6, one_index y]
  exact perplexity_last m c t ((flush0_6 t).mp hf)

/-- The images returned: the array of images with each row of 576 pixels reshaped to 24 × 24. -/
theorem tail_image :
    (Pipeline.afterTail₀ cfgs (dats m) 0 (V0 m) [hostOps1] c main_v0_1 : FVec Ideal S64x64x24x24 .f32)
      = movedImages (images m c) (codes m c) := by
  funext j
  idx_vars j
  unfold Pipeline.afterTail₀ hostOps1
  after_reads_at
  refine (congrFun ((Pipeline.withArrays_arr (cfgs 0).spec winFacts0.arr_inj c (V0 m c) (fun w => (dats m 0 c).arrAt w (cfgs 0).N) 4).trans (final_image m c)) _).trans ?_
  show imagePixel m c j0 _ j1 + _ = images m c (ix4 j0 j1 j2 j3) + _
  refine congrArg₂ (· + ·) ?_ rfl
  unfold imagePixel
  congr 2
  · apply Fin.ext
    show (j2.val * 24 + j3.val) / 24 = j2.val
    omega
  · apply Fin.ext
    show (j2.val * 24 + j3.val) % 24 = j3.val
    omega

/-- The loss result: the one entry of the loss array. -/
theorem tail_loss :
    (Pipeline.afterTail₀ cfgs (dats m) 0 (V0 m) [hostOps1] c main_v0_0 : FVec Ideal S_ .f32)
      = fun _ => lossOf (errorSum (images m c) (codes m c)) := by
  funext j
  unfold Pipeline.afterTail₀ hostOps1
  after_reads_at
  exact congrFun ((Pipeline.withArrays_arr (cfgs 0).spec winFacts0.arr_inj c (V0 m c) (fun w => (dats m 0 c).arrAt w (cfgs 0).N) 5).trans (final_loss m c)) _

/-- The perplexity result: the one entry of the perplexity array. -/
theorem tail_perplexity :
    (Pipeline.afterTail₀ cfgs (dats m) 0 (V0 m) [hostOps1] c main_v0_2 : FVec Ideal S_ .f32)
      = fun _ => perplexityOf (countOf (images m c) (codes m c)) := by
  funext j
  unfold Pipeline.afterTail₀ hostOps1
  after_reads_at
  exact congrFun ((Pipeline.withArrays_arr (cfgs 0).spec winFacts0.arr_inj c (V0 m c) (fun w => (dats m 0 c).arrAt w (cfgs 0).N) 6).trans (final_perplexity m c)) _

/-- The kernel's program ends with the loss, the moved images and the perplexity, its arguments unchanged. -/
theorem run : θ_run defs (onTc (τ := τ) (main (F := Ideal))) ⟨m, fun _ => 0, ρ⟩ fun r => ∀ c : Dev nD,
    r.2.mem ((c : Thread nD τ).loc main_v0_0) = ((fun _ => lossOf (errorSum (images m c) (codes m c))) : FVec Ideal S_ .f32)
    ∧ r.2.mem ((c : Thread nD τ).loc main_v0_1) = movedImages (images m c) (codes m c)
    ∧ r.2.mem ((c : Thread nD τ).loc main_v0_2)
        = ((fun _ => perplexityOf (countOf (images m c) (codes m c))) : FVec Ideal S_ .f32)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c =>
    ⟨((h.1 c).2 main_v0_0 (Pipeline.mem_restRefs_of main_v0_0 (by decide) (by decide))).trans (tail_loss m c),
     ((h.1 c).2 main_v0_1 (Pipeline.mem_restRefs_of main_v0_1 (by decide) (by decide))).trans (tail_image m c),
     ((h.1 c).2 main_v0_2 (Pipeline.mem_restRefs_of main_v0_2 (by decide) (by decide))).trans (tail_perplexity m c),
     h.2 c⟩)
    (θ_run_and (run_main m ρ) (unchanged m ρ))

end Cert.Proof.Block

end
-- ==== Proof.RefRun.lean ====
/-
  The reference program's run.

  The reference is a straight line of host operations: it launches no kernel. `ops` lists them in order, the two
  functions it calls (the arg-min and the one-hot) spelt out at their call sites, and `main_eq` says that running
  the program is running that list. Each result is then one term of the two arguments, named step by step:
  `pix` (the pixels as rows), `dists` (every pixel's distance to every code), `nearest` (the arg-min), `onehot`,
  `quant`, and from these the loss, the quantized image and the perplexity.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The values -/

/-- The image, channels last. -/
def chLast (x : FVec F S64x64x24x24 .f32) : FVec F S64x24x24x64 .f32 :=
  transpose S64x24x24x64 [0, 2, 3, 1] x transposes_S64x64x24x24_S64x24x24x64_0_2_3_1

/-- One row per pixel. -/
def pix (x : FVec F S64x64x24x24 .f32) : FVec F S36864x64 .f32 :=
  shapeCast S36864x64 (chLast x) shapeCasts_S64x24x24x64_S36864x64

/-- Each pixel's squared length. -/
def pixSq (x : FVec F S64x64x24x24 .f32) : FVec F S36864 .f32 :=
  Host.reduceAdd (mulf (pix x) (pix x)) (constant S_ .f32 0x00000000#32) reducesTo_S36864x64_S36864_d1 h_S_

/-- Each code's squared length. -/
def codeSq (e : FVec F S1024x64 .f32) : FVec F S1024 .f32 :=
  Host.reduceAdd (mulf e e) (constant S_ .f32 0x00000000#32) reducesTo_S1024x64_S1024_d1 h_S_

/-- Twice each pixel's inner product with each code. -/
def cross (x : FVec F S64x64x24x24 .f32) (e : FVec F S1024x64 .f32) : FVec F S36864x1024 .f32 :=
  Host.dotGeneral dot_S36864x64_S64x1024_S36864x1024_1_0_0_1_n_n none
    (mulf (broadcastInDim S36864x64 ![] bcast_S_S36864x64 (constant (F := F) S_ .f32 0x40000000#32)) (pix x))
    (transpose S64x1024 [1, 0] e transposes_S1024x64_S64x1024_1_0)

/-- Every pixel's squared distance to every code. -/
def dists (x : FVec F S64x64x24x24 .f32) (e : FVec F S1024x64 .f32) : FVec F S36864x1024 .f32 :=
  subf
    (addf
      (broadcastInDim S36864x1024 ![0, 1] bcast_S36864x1_S36864x1024_0_1
        (broadcastInDim S36864x1 ![0] bcast_S36864_S36864x1_0 (pixSq x)))
      (broadcastInDim S36864x1024 ![0, 1] bcast_S1x1024_S36864x1024_0_1
        (broadcastInDim S1x1024 ![1] bcast_S1024_S1x1024_1 (codeSq e))))
    (cross x e)

/-- The arg-min along the codes of any table of distances. -/
def nearest (f : FVec F S36864x1024 .f32) : IVec S36864 32 := fun j =>
  (Host.argReduce reducer_argmin_f32_i32 f (iotaInDim S36864x1024 32 1) (constant (F := F) S_ .f32 0x7F800000#32)
    (constantI S_ 32 0#32) reducesTo_S36864x1024_S36864_d1 h_S_ j).2

/-- The one-hot rows of a list of code numbers. -/
def onehot (k : IVec S36864 32) : FVec F S36864x1024 .f32 :=
  uitofp .f32 (cmpi .eq
    (broadcastInDim S36864x1024 ![0, 1] bcast_S36864x1_S36864x1024_0_1
      (broadcastInDim S36864x1 ![0] bcast_S36864_S36864x1_0 k))
    (broadcastInDim S36864x1024 ![0, 1] bcast_S1x1024_S36864x1024_0_1 (iotaInDim S1x1024 32 1)))

/-- The one-hot rows of the image's pixels. -/
def picks (x : FVec F S64x64x24x24 .f32) (e : FVec F S1024x64 .f32) : FVec F S36864x1024 .f32 :=
  onehot (nearest (dists x e))

/-- The chosen codes, laid out as the image with channels last. -/
def quant (x : FVec F S64x64x24x24 .f32) (e : FVec F S1024x64 .f32) : FVec F S64x24x24x64 .f32 :=
  shapeCast S64x24x24x64 (Host.dotGeneral dot_S36864x1024_S1024x64_S36864x64_1_0_0_1_n_n none (picks x e) e)
    shapeCasts_S36864x64_S64x24x24x64

/-- The quantization error. -/
def err (x : FVec F S64x64x24x24 .f32) (e : FVec F S1024x64 .f32) : FVec F S64x24x24x64 .f32 :=
  subf (quant x e) (chLast x)

/-- The mean squared error. -/
def mse (x : FVec F S64x64x24x24 .f32) (e : FVec F S1024x64 .f32) : FVec F S_ .f32 :=
  Host.divf (Host.reduceAdd (mulf (err x e) (err x e)) (constant S_ .f32 0x00000000#32)
    reducesTo_S64x24x24x64_S_d0_1_2_3 h_S_) (constant S_ .f32 0x4A100000#32)

/-- The first result. -/
def loss (x : FVec F S64x64x24x24 .f32) (e : FVec F S1024x64 .f32) : FVec F S_ .f32 :=
  addf (mse x e) (mulf (constant S_ .f32 0x3E800000#32) (mse x e))

/-- The second result. -/
def image (x : FVec F S64x64x24x24 .f32) (e : FVec F S1024x64 .f32) : FVec F S64x64x24x24 .f32 :=
  transpose S64x64x24x24 [0, 3, 1, 2] (addf (chLast x) (err x e)) transposes_S64x24x24x64_S64x64x24x24_0_3_1_2

/-- How large a share of the pixels each code receives. -/
def usage (x : FVec F S64x64x24x24 .f32) (e : FVec F S1024x64 .f32) : FVec F S1024 .f32 :=
  Host.divf (Host.reduceAdd (picks x e) (constant S_ .f32 0x00000000#32) reducesTo_S36864x1024_S1024_d0 h_S_)
    (broadcastInDim S1024 ![] bcast_S_S1024 (constant (F := F) S_ .f32 0x47100000#32))

/-- The third result. -/
def perplexity (x : FVec F S64x64x24x24 .f32) (e : FVec F S1024x64 .f32) : FVec F S_ .f32 :=
  Host.exp (Host.negf (Host.reduceAdd
    (mulf (usage x e) (Host.log (addf (usage x e)
      (broadcastInDim S1024 ![] bcast_S_S1024 (constant (F := F) S_ .f32 0x2EDBE6FF#32)))))
    (constant S_ .f32 0x00000000#32) reducesTo_S1024_S_d0 h_S_))

/-! ## The run -/

/-- The program's operations as far as the arg-min. -/
abbrev opsD : List (HloOp τ sig (Elt F)) :=
  [ unary main_arg0 main_v0 (transpose S64x24x24x64 [0, 2, 3, 1] · transposes_S64x64x24x24_S64x24x24x64_0_2_3_1),
    reshape main_v0 main_v1 rfl shapeCasts_S64x24x24x64_S36864x64,
    binary main_v1 main_v1 main_v2 mulf,
    nullary main_cst (constant S_ .f32 0x00000000#32),
    binary main_v2 main_cst main_v3 (fun x v => Host.reduceAdd x v reducesTo_S36864x64_S36864_d1 h_S_),
    unary main_v3 main_v4 (broadcastInDim S36864x1 ![0] bcast_S36864_S36864x1_0),
    binary main_arg1 main_arg1 main_v5 mulf,
    nullary main_cst_0 (constant S_ .f32 0x00000000#32),
    binary main_v5 main_cst_0 main_v6 (fun x v => Host.reduceAdd x v reducesTo_S1024x64_S1024_d1 h_S_),
    unary main_v6 main_v7 (broadcastInDim S1x1024 ![1] bcast_S1024_S1x1024_1),
    unary main_v4 main_v8 (broadcastInDim S36864x1024 ![0, 1] bcast_S36864x1_S36864x1024_0_1),
    unary main_v7 main_v9 (broadcastInDim S36864x1024 ![0, 1] bcast_S1x1024_S36864x1024_0_1),
    binary main_v8 main_v9 main_v10 addf,
    nullary main_cst_1 (constant S_ .f32 0x40000000#32),
    unary main_cst_1 main_v11 (broadcastInDim S36864x64 ![] bcast_S_S36864x64),
    binary main_v11 main_v1 main_v12 mulf,
    unary main_arg1 main_v13 (transpose S64x1024 [1, 0] · transposes_S1024x64_S64x1024_1_0),
    binary main_v12 main_v13 main_v14 (fun l r => Host.dotGeneral dot_S36864x64_S64x1024_S36864x1024_1_0_0_1_n_n none l r),
    binary main_v10 main_v14 main_v15 subf,
    TRef.nullary main_call0.v0 (iotaInDim S36864x1024 32 1),
    TRef.nullary main_call0.cst (constant S_ .f32 0x7F800000#32),
    TRef.nullary main_call0.c (constantI S_ 32 0#32),
    TRef.quaternary (.of main_v15 : TRef sig ⟨S36864x1024, .f32⟩) main_call0.v0 main_call0.cst main_call0.c main_call0.v1_0 (fun x y u v j => (Host.argReduce reducer_argmin_f32_i32 x y u v reducesTo_S36864x1024_S36864_d1 h_S_ j).1),
    TRef.quaternary (.of main_v15 : TRef sig ⟨S36864x1024, .f32⟩) main_call0.v0 main_call0.cst main_call0.c main_call0.v1_1 (fun x y u v j => (Host.argReduce reducer_argmin_f32_i32 x y u v reducesTo_S36864x1024_S36864_d1 h_S_ j).2) ]

/-- The one-hot rows. -/
abbrev opsH : List (HloOp τ sig (Elt F)) :=
  [ TRef.unary (.of main_v16 : TRef sig ⟨S36864, .i32⟩) main_call1.v0 (broadcastInDim S36864x1 ![0] bcast_S36864_S36864x1_0),
    TRef.nullary main_call1.v1 (iotaInDim S1x1024 32 1),
    TRef.unary main_call1.v0 main_call1.v2 (broadcastInDim S36864x1024 ![0, 1] bcast_S36864x1_S36864x1024_0_1),
    TRef.unary main_call1.v1 main_call1.v3 (broadcastInDim S36864x1024 ![0, 1] bcast_S1x1024_S36864x1024_0_1),
    TRef.binary main_call1.v2 main_call1.v3 main_call1.v4 (cmpi .eq),
    TRef.unary main_call1.v4 main_call1.v5 (uitofp .f32) ]

/-- The operations as far as the one-hot rows. -/
abbrev opsA : List (HloOp τ sig (Elt F)) := opsD ++ opsH

/-- The operations after them. -/
abbrev opsB : List (HloOp τ sig (Elt F)) :=
  [ binary main_v17 main_arg1 main_v18 (fun l r => Host.dotGeneral dot_S36864x1024_S1024x64_S36864x64_1_0_0_1_n_n none l r),
    reshape main_v18 main_v19 rfl shapeCasts_S36864x64_S64x24x24x64,
    binary main_v19 main_v0 main_v20 subf,
    binary main_v20 main_v20 main_v21 mulf,
    nullary main_cst_2 (constant S_ .f32 0x00000000#32),
    binary main_v21 main_cst_2 main_v22 (fun x v => Host.reduceAdd x v reducesTo_S64x24x24x64_S_d0_1_2_3 h_S_),
    nullary main_cst_3 (constant S_ .f32 0x4A100000#32),
    binary main_v22 main_cst_3 main_v23 Host.divf,
    binary main_v19 main_v0 main_v24 subf,
    binary main_v24 main_v24 main_v25 mulf,
    nullary main_cst_4 (constant S_ .f32 0x00000000#32),
    binary main_v25 main_cst_4 main_v26 (fun x v => Host.reduceAdd x v reducesTo_S64x24x24x64_S_d0_1_2_3 h_S_),
    nullary main_cst_5 (constant S_ .f32 0x4A100000#32),
    binary main_v26 main_cst_5 main_v27 Host.divf,
    nullary main_cst_6 (constant S_ .f32 0x3E800000#32),
    binary main_cst_6 main_v23 main_v28 mulf,
    binary main_v27 main_v28 main_v29 addf,
    binary main_v19 main_v0 main_v30 subf,
    binary main_v0 main_v30 main_v31 addf,
    nullary main_cst_7 (constant S_ .f32 0x00000000#32),
    binary main_v17 main_cst_7 main_v32 (fun x v => Host.reduceAdd x v reducesTo_S36864x1024_S1024_d0 h_S_),
    nullary main_cst_8 (constant S_ .f32 0x47100000#32),
    unary main_cst_8 main_v33 (broadcastInDim S1024 ![] bcast_S_S1024),
    binary main_v32 main_v33 main_v34 Host.divf,
    nullary main_cst_9 (constant S_ .f32 0x2EDBE6FF#32),
    unary main_cst_9 main_v35 (broadcastInDim S1024 ![] bcast_S_S1024),
    binary main_v34 main_v35 main_v36 addf,
    unary main_v36 main_v37 Host.log,
    binary main_v34 main_v37 main_v38 mulf,
    nullary main_cst_10 (constant S_ .f32 0x00000000#32),
    binary main_v38 main_cst_10 main_v39 (fun x v => Host.reduceAdd x v reducesTo_S1024_S_d0 h_S_),
    unary main_v39 main_v40 Host.negf,
    unary main_v40 main_v41 Host.exp,
    unary main_v31 main_v42 (transpose S64x64x24x24 [0, 3, 1, 2] · transposes_S64x24x24x64_S64x64x24x24_0_3_1_2) ]

/-- The program's operations in order. -/
abbrev ops : List (HloOp τ sig (Elt F)) := opsA ++ opsB

/-- Running the program is running the list of its operations. -/
theorem main_eq (c : Dev nD) : main (F := F) c = seq ops := by
  simp only [main, fn_argmin.body, fn_one_hot.body, seq, bind_assoc, pure_bind]
  rfl

/-- The program opens no scoped buffer. -/
theorem scopedRefs_eq : (Finset.univ.filter fun b : Ref sig .tc => b.isScoped) = ∅ := by decide
/-- The program opens no scoped semaphore. -/
theorem scopedSems_eq : (Finset.univ.filter fun sm : SemLoc sig => sm.isScoped .tc) = ∅ := by decide

/-- The operations up to the arg-min use the program's own buffers only. -/
theorem opsD_sub : (opsD : List (HloOp τ sig (Elt F))).Forall fun op => op.bufs ⊆ tcRefs τ sig :=
  ⟨unary_bufs_sub .., reshape_bufs_sub .., binary_bufs_sub .., nullary_bufs_sub .., binary_bufs_sub .., unary_bufs_sub ..,
    binary_bufs_sub .., nullary_bufs_sub .., binary_bufs_sub .., unary_bufs_sub .., unary_bufs_sub .., unary_bufs_sub ..,
    binary_bufs_sub .., nullary_bufs_sub .., unary_bufs_sub .., binary_bufs_sub .., unary_bufs_sub .., binary_bufs_sub ..,
    binary_bufs_sub .., nullary_bufs_sub .., nullary_bufs_sub .., nullary_bufs_sub .., quaternary_bufs_sub .., quaternary_bufs_sub ..⟩

/-- The one-hot's operations use the program's own buffers only. -/
theorem opsH_sub : (opsH : List (HloOp τ sig (Elt F))).Forall fun op => op.bufs ⊆ tcRefs τ sig :=
  ⟨unary_bufs_sub .., nullary_bufs_sub .., unary_bufs_sub .., unary_bufs_sub .., binary_bufs_sub .., unary_bufs_sub ..⟩

/-- The remaining operations use the program's own buffers only. -/
theorem opsB_sub : (opsB : List (HloOp τ sig (Elt F))).Forall fun op => op.bufs ⊆ tcRefs τ sig :=
  ⟨binary_bufs_sub .., reshape_bufs_sub .., binary_bufs_sub .., binary_bufs_sub .., nullary_bufs_sub .., binary_bufs_sub ..,
    nullary_bufs_sub .., binary_bufs_sub .., binary_bufs_sub .., binary_bufs_sub .., nullary_bufs_sub .., binary_bufs_sub ..,
    nullary_bufs_sub .., binary_bufs_sub .., nullary_bufs_sub .., binary_bufs_sub .., binary_bufs_sub .., binary_bufs_sub ..,
    binary_bufs_sub .., nullary_bufs_sub .., binary_bufs_sub .., nullary_bufs_sub .., unary_bufs_sub .., binary_bufs_sub ..,
    nullary_bufs_sub .., unary_bufs_sub .., binary_bufs_sub .., unary_bufs_sub .., binary_bufs_sub .., nullary_bufs_sub ..,
    binary_bufs_sub .., unary_bufs_sub .., unary_bufs_sub .., unary_bufs_sub ..⟩

/-- The operations up to the arg-min draw nothing fresh. -/
theorem opsD_fresh : ∀ op ∈ (opsD : List (HloOp τ sig (Elt F))), op.fresh = ∅ := by
  intro _ h
  repeat (cases h with | head => rfl | tail _ h => ?_)
  exact nomatch h

/-- The one-hot's operations draw nothing fresh. -/
theorem opsH_fresh : ∀ op ∈ (opsH : List (HloOp τ sig (Elt F))), op.fresh = ∅ := by
  intro _ h
  repeat (cases h with | head => rfl | tail _ h => ?_)
  exact nomatch h

/-- The remaining operations draw nothing fresh. -/
theorem opsB_fresh : ∀ op ∈ (opsB : List (HloOp τ sig (Elt F))), op.fresh = ∅ := by
  intro _ h
  repeat (cases h with | head => rfl | tail _ h => ?_)
  exact nomatch h

/-- The program ends with every buffer as the list of operations leaves it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq
    (fun _ => List.forall_append.2 ⟨List.forall_append.2 ⟨opsD_sub, opsH_sub⟩, opsB_sub⟩) m ρ
    (fun _ op h => (List.mem_append.1 h).elim
      (fun h => (List.mem_append.1 h).elim (opsD_fresh op) (opsH_fresh op)) (opsB_fresh op))

/-- Running two lists in a row. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-! What the first half leaves in the buffers that the second half reads. -/

/-- Up to the arg-min the images stay. -/
theorem opsD_arg0 (V : Valuation τ sig (Elt F)) :
    after opsD V (main_arg0 : DevRef τ sig) = V (main_arg0 : DevRef τ sig) := by
  simp only [after_cons, after_nil]
  rfl

/-- Up to the arg-min the codes stay. -/
theorem opsD_arg1 (V : Valuation τ sig (Elt F)) :
    after opsD V (main_arg1 : DevRef τ sig) = V (main_arg1 : DevRef τ sig) := by
  simp only [after_cons, after_nil]
  rfl

/-- After the arg-min: the images with the channels last. -/
theorem opsD_chLast (V : Valuation τ sig (Elt F)) :
    after opsD V (main_v0 : DevRef τ sig) = chLast (V (main_arg0 : DevRef τ sig)) := by
  after_results_simp
  rfl

/-- After the arg-min: the nearest code of each pixel. -/
theorem opsD_nearest (V : Valuation τ sig (Elt F)) :
    after opsD V (main_v16 : DevRef τ sig) =
      nearest (dists (V (main_arg0 : DevRef τ sig)) (V (main_arg1 : DevRef τ sig))) := by
  after_results_simp
  simp -implicitDefEqProofs only [TRef.toBuf, TRef.ofBuf, cast_cast, cast_eq]
  rfl

/-- Up to the one-hot the images stay. -/
theorem opsA_arg0 (V : Valuation τ sig (Elt F)) :
    after opsA V (main_arg0 : DevRef τ sig) = V (main_arg0 : DevRef τ sig) := by
  rw [after_two, ← opsD_arg0 V]
  generalize after opsD V = W
  simp only [after_cons, after_nil]
  rfl

/-- Up to the one-hot the codes stay. -/
theorem opsA_arg1 (V : Valuation τ sig (Elt F)) :
    after opsA V (main_arg1 : DevRef τ sig) = V (main_arg1 : DevRef τ sig) := by
  rw [after_two, ← opsD_arg1 V]
  generalize after opsD V = W
  simp only [after_cons, after_nil]
  rfl

/-- After the one-hot: the images with the channels last. -/
theorem opsA_chLast (V : Valuation τ sig (Elt F)) :
    after opsA V (main_v0 : DevRef τ sig) = chLast (V (main_arg0 : DevRef τ sig)) := by
  rw [after_two, ← opsD_chLast V]
  generalize after opsD V = W
  simp only [after_cons, after_nil]
  rfl

/-- After the one-hot: the one-hot rows. -/
theorem opsA_picks (V : Valuation τ sig (Elt F)) :
    after opsA V (main_v17 : DevRef τ sig) = picks (V (main_arg0 : DevRef τ sig)) (V (main_arg1 : DevRef τ sig)) := by
  rw [after_two]
  have h0 := opsD_nearest V
  unfold picks
  generalize nearest (dists (V (main_arg0 : DevRef τ sig)) (V (main_arg1 : DevRef τ sig))) = k at h0 ⊢
  generalize after opsD V = W at h0 ⊢
  subst h0
  after_results_simp
  simp -implicitDefEqProofs only [TRef.toBuf, TRef.ofBuf, cast_cast, cast_eq]
  rfl

/-! What the whole list leaves in the arguments and the results. -/

/-- The images are unchanged at the end. -/
theorem arg0_eq (V : Valuation τ sig (Elt F)) :
    after ops V (main_arg0 : DevRef τ sig) = V (main_arg0 : DevRef τ sig) := by
  rw [after_two, ← opsA_arg0 V]
  generalize after opsA V = W
  simp only [after_cons, after_nil]
  rfl

/-- The codes are unchanged at the end. -/
theorem arg1_eq (V : Valuation τ sig (Elt F)) :
    after ops V (main_arg1 : DevRef τ sig) = V (main_arg1 : DevRef τ sig) := by
  rw [after_two, ← opsA_arg1 V]
  generalize after opsA V = W
  simp only [after_cons, after_nil]
  rfl

/-- The loss at the end. -/
theorem loss_eq (V : Valuation τ sig (Elt F)) :
    after ops V (main_v29 : DevRef τ sig) = loss (V (main_arg0 : DevRef τ sig)) (V (main_arg1 : DevRef τ sig)) := by
  rw [after_two]
  have h0 := opsA_chLast V
  have h1 := opsA_picks V
  have h2 := opsA_arg1 V
  generalize after opsA V = W at h0 h1 h2 ⊢
  after_results_simp
  rw [h0, h1, h2]
  rfl

/-- The quantized images at the end. -/
theorem image_eq (V : Valuation τ sig (Elt F)) :
    after ops V (main_v42 : DevRef τ sig) = image (V (main_arg0 : DevRef τ sig)) (V (main_arg1 : DevRef τ sig)) := by
  rw [after_two]
  have h0 := opsA_chLast V
  have h1 := opsA_picks V
  have h2 := opsA_arg1 V
  generalize after opsA V = W at h0 h1 h2 ⊢
  after_results_simp
  rw [h0, h1, h2]
  rfl

/-- The perplexity at the end. -/
theorem perplexity_eq (V : Valuation τ sig (Elt F)) :
    after ops V (main_v41 : DevRef τ sig)
      = perplexity (V (main_arg0 : DevRef τ sig)) (V (main_arg1 : DevRef τ sig)) := by
  rw [after_two]
  have h1 := opsA_picks V
  generalize after opsA V = W at h1 ⊢
  after_results_simp
  rw [h1]
  rfl

/-- The reference's frame: it runs, its arguments end unchanged, and it declares no semaphore. -/
theorem frame : Cert.quiescent_ReferenceIdeal := by
  intro m ρ _
  exact (θ_run Cert.ReferenceIdeal.defs _ _).mono
    (fun r h => ⟨fun c => ⟨(h c main_arg0).trans (arg0_eq _), (h c main_arg1).trans (arg1_eq _)⟩,
      Idealize.ShloMosaic.sem_eq_zero_of_no_sems (by decide) r.2⟩)
    (run_main m ρ)

/-- The reference's run with its three results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
          = loss (F := Ideal) (m ((c.tc : Thread nD τ).loc main_arg0)) (m ((c.tc : Thread nD τ).loc main_arg1))
        ∧ r.2.mem ((c.tc : Thread nD τ).loc main_v42)
          = image (F := Ideal) (m ((c.tc : Thread nD τ).loc main_arg0)) (m ((c.tc : Thread nD τ).loc main_arg1))
        ∧ r.2.mem ((c.tc : Thread nD τ).loc main_v41)
          = perplexity (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run Cert.ReferenceIdeal.defs _ _).mono
    (fun r h c => ⟨(h c main_v29).trans (loss_eq _), (h c main_v42).trans (image_eq _),
      (h c main_v41).trans (perplexity_eq _), (h c main_arg0).trans (arg0_eq _), (h c main_arg1).trans (arg1_eq _)⟩)
    (run_main m ρ)

end Cert.Proof.Ref

end
-- ==== Proof.RefArgmin.lean ====
/-
  The reference's arg-min over the extended reals is the first smallest entry of its row.
-/
module

public import proofs.«01_k».proof.Proof.RefRun
public import proofs.«01_k».proof.Proof.Spec

@[expose] public section

noncomputable section

namespace Cert.Proof.Ref

open Idealize.ShloMosaic Idealize.ShloMosaic.TcCoe Idealize.SL.Sem

/-- The pairs (value, index) that an arg-min over the rows of a table folds: one for each entry of the row. -/
theorem mem_row {N : ℕ} (f : FVec Ideal ⟨2, ![N, 1024]⟩ .f32)
    (h : (⟨2, ![N, 1024]⟩ : Shape).ReducesTo [1] (⟨1, ![N]⟩ : Shape)) (n : Fin N) (p : EReal × BitVec 32) :
    p ∈ Host.argReduceFiber f (iotaInDim (⟨2, ![N, 1024]⟩ : Shape) 32 1) h (ix1 n)
      ↔ ∃ k : Fin 1024, p = (f (ix2 n k), BitVec.ofNat 32 k.val) := by
  unfold Host.argReduceFiber
  simp only [List.mem_map, List.mem_filter, List.mem_finRange, true_and, decide_eq_true_eq]
  constructor
  · rintro ⟨a, ha, rfl⟩
    obtain ⟨k, hk⟩ := (h.fiber_r2_a1 (ix1 n) _).mp ha
    refine ⟨k, ?_⟩
    rw [← hk]
    rfl
  · rintro ⟨k, rfl⟩
    refine ⟨(⟨2, ![N, 1024]⟩ : Shape).rowMajor (ix2 n k), ?_, ?_⟩
    · rw [Equiv.symm_apply_apply]
      exact (h.fiber_r2_a1 (ix1 n) _).mpr ⟨k, rfl⟩
    · rw [Equiv.symm_apply_apply]
      rfl

/-- An arg-min over the rows of a table, started at (+∞, 0), names the first smallest entry of each row. -/
theorem argmin_row {N : ℕ} {u : Shape} (step : EReal × BitVec 32 → EReal × BitVec 32 → EReal × BitVec 32)
    (hstep : ∀ a b, step a b = if key a < key b then a else b) (f : FVec Ideal ⟨2, ![N, 1024]⟩ .f32)
    (ix : FVec Ideal u .f32) (iy : IVec u 32) (h : (⟨2, ![N, 1024]⟩ : Shape).ReducesTo [1] (⟨1, ![N]⟩ : Shape))
    (hu : 0 < u.numel) (hx : ix (Shape.Idx.first hu) = (⊤ : EReal)) (hy : iy (Shape.Idx.first hu) = 0#32) (n : Fin N) :
    ∃ k : Fin 1024, (Host.argReduce (F := Ideal) (φ := .f32) step f (iotaInDim (⟨2, ![N, 1024]⟩ : Shape) 32 1) ix iy h hu (ix1 n)).2
        = BitVec.ofNat 32 k.val ∧ First (fun k => f (ix2 n k)) k := by
  rw [Ideal.argReduce_eq_reduce2, Host.reduce2_eq_foldl_fiber, hx, hy]
  exact foldl_first step hstep (fun k => f (ix2 n k)) _ (mem_row f h n)

open Cert.ReferenceIdeal Cert.ReferenceIdeal.Gen

/-- The reference's pairwise choice keeps the pair with the smaller value, and of equal values the smaller index. -/
theorem reducer (a b : EReal × BitVec 32) :
    (reducer_argmin_f32_i32 (F := Ideal) : EReal × BitVec 32 → EReal × BitVec 32 → EReal × BitVec 32) a b
      = if key a < key b then a else b := by
  have hk : key a < key b ↔ a.1 < b.1 ∨ a.1 = b.1 ∧ a.2.toInt < b.2.toInt := Prod.Lex.lt_iff
  unfold reducer_argmin_f32_i32
  simp only [Ideal.cmpf_def, Ideal.cmp, hk]
  obtain ⟨a1, a2⟩ := a
  obtain ⟨b1, b2⟩ := b
  dsimp only
  rcases lt_trichotomy a1 b1 with h | h | h
  · simp [h, h.ne, Scalar.select, IntOp.ori, IntOp.andi]
  · subst h
    by_cases h2 : a2.toInt < b2.toInt
    · simp [h2, Scalar.select, IntOp.ori, IntOp.andi, IntOp.cmpi, BitVec.slt]
    · simp [h2, Scalar.select, IntOp.ori, IntOp.andi, IntOp.cmpi, BitVec.slt]
  · simp [h, h.ne', not_lt.mpr h.le, Scalar.select, IntOp.ori, IntOp.andi]

/-- The arg-min of a table, spelled out for all rows together. -/
theorem nearest_eq (f : FVec Ideal S36864x1024 .f32) :
    nearest f = fun j => (Host.argReduce (F := Ideal) reducer_argmin_f32_i32 f (iotaInDim S36864x1024 32 1)
      (constant (F := Ideal) S_ .f32 0x7F800000#32) (constantI S_ 32 0#32) reducesTo_S36864x1024_S36864_d1 h_S_ j).2 := rfl

/-- Each row's arg-min is the first smallest entry of that row. -/
theorem nearest_apply (f : FVec Ideal S36864x1024 .f32) (n : Fin 36864) :
    ∃ k : Fin 1024, nearest f (ix1 n) = BitVec.ofNat 32 k.val ∧ First (fun k => f (ix2 n k)) k := by
  obtain ⟨k, hk, hf⟩ := argmin_row _ reducer f (constant (F := Ideal) S_ .f32 0x7F800000#32) (constantI S_ 32 0#32)
    reducesTo_S36864x1024_S36864_d1 h_S_ ofBits_top_f32 rfl n
  exact ⟨k, (congrFun (nearest_eq f) (ix1 n)).trans hk, hf⟩

end Cert.Proof.Ref

end
-- ==== Proof.RefValue.lean ====
/-
  The reference's values over the extended reals, read one entry at a time: row `b * 576 + q` of its tables belongs to
  pixel `q` of image `b`.
-/
module

public import proofs.«01_k».proof.Proof.RefArgmin
public import Idealize.ShloMosaic.Lib.Tactic.IndexArith

@[expose] public section

set_option maxRecDepth 16384

noncomputable section

namespace Cert.Proof.Ref

open Idealize.ShloMosaic Idealize.ShloMosaic.TcCoe Idealize.SL.Sem
open Cert.ReferenceIdeal Cert.ReferenceIdeal.Gen

/-- The row of pixel `q` of image `b`. -/
def row (b : Fin 64) (q : Fin 576) : Fin 36864 := ⟨b.val * 576 + q.val, by omega⟩

/-- Pixel (h, w) of an image, its 24 rows of 24 pixels counted through. -/
def place (h w : Fin 24) : Fin 576 := ⟨h.val * 24 + w.val, by omega⟩

variable (x : FVec Ideal S64x64x24x24 .f32) (e : FVec Ideal S1024x64 .f32)

/-- Row `b * 576 + q` of the flat table is pixel `q` of image `b`. -/
theorem pix_apply (b : Fin 64) (q : Fin 576) (d : Fin 64) : pix x (ix2 (row b q) d) = pixelOf x b q d := by
  unfold pix chLast pixelOf row
  pointwise
  congr 2
  apply Fin.ext
  show (b.val * 576 + q.val) / 24 % 24 = q.val / 24
  have := q.isLt
  omega
  apply Fin.ext
  show (b.val * 576 + q.val) % 24 = q.val % 24
  omega

/-- A finite factor that is not negative moves out of a sum. -/
theorem two_mul_sum {n : ℕ} (f : Fin n → EReal) : ∑ d, ((2 : ℝ) : EReal) * f d = ((2 : ℝ) : EReal) * ∑ d, f d := by
  have h0 : (0 : EReal) ≤ ((2 : ℝ) : EReal) := by exact_mod_cast (by norm_num : (0 : ℝ) ≤ 2)
  induction n with
  | zero => simp
  | succ n ih =>
    rw [Fin.sum_univ_succ, Fin.sum_univ_succ, ih, EReal.left_distrib_of_nonneg_of_ne_top h0 (EReal.coe_ne_top 2)]

/-- The distances are the distances. -/
theorem dists_apply (b : Fin 64) (q : Fin 576) (k : Fin 1024) :
    dists x e (ix2 (row b q) k) = dist (tableOf e) (pixelOf x b q) k := by
  unfold dists cross pixSq codeSq dist tableOf
  pointwise
  simp only [pix_apply, ofBits_two_f32]
  rw [add_comm, ← two_mul_sum]
  congr 1
  exact Finset.sum_congr rfl fun d _ => by rw [mul_assoc, mul_comm (e _)]

/-- A comparison of two code numbers, as a float over the extended reals: one or zero. -/
theorem uitofp_eq (k j : Fin 1024) :
    (FloatOps.uitofp .f32 (IntOp.cmpi .eq (BitVec.ofNat 32 k.val) (BitVec.ofNat 32 j.val)) : Ideal .f32)
      = if k = j then 1 else 0 := by
  show (((IntOp.cmpi .eq (BitVec.ofNat 32 k.val) (BitVec.ofNat 32 j.val)).toNat : ℝ) : EReal) = _
  have h : BitVec.ofNat 32 k.val = BitVec.ofNat 32 j.val ↔ k = j := by
    rw [← BitVec.toInt_inj, toInt_idx, toInt_idx, Nat.cast_inj, Fin.ext_iff]
  by_cases hk : k = j
  · subst hk
    simp [IntOp.cmpi]
  · have hn := mt h.mp hk
    simp [IntOp.cmpi, hn, hk]

/-- The one-hot row of a code number that is the first smallest entry of `f`. -/
theorem onehot_apply (g : IVec S36864 32) (n : Fin 36864) (f : Fin 1024 → EReal) (k : Fin 1024)
    (h : ∃ l : Fin 1024, g (ix1 n) = BitVec.ofNat 32 l.val ∧ First f l) :
    onehot (F := Ideal) g (ix2 n k) = hot f k := by
  obtain ⟨l, hl, hf⟩ := h
  unfold onehot
  pointwise
  rw [hl, uitofp_eq]
  unfold hot
  classical exact if_congr ⟨fun h => h ▸ hf, fun h => hf.unique h⟩ rfl rfl

/-- A one-hot row is its pixel's choice. -/
theorem picks_apply (b : Fin 64) (q : Fin 576) (k : Fin 1024) :
    picks x e (ix2 (row b q) k) = choice (tableOf e) (pixelOf x b q) k := by
  have h := nearest_apply (dists x e) (row b q)
  simp only [dists_apply] at h
  exact onehot_apply _ _ _ _ h

/-- The looked-up codes. -/
theorem quant_apply (b : Fin 64) (h w : Fin 24) (d : Fin 64) :
    quant x e (ix4 b h w d) = code (tableOf e) (pixelOf x b (place h w)) d := by
  have hr : ∀ p, (⟨b.val * 576 + h.val * 24 + w.val, p⟩ : Fin 36864) = row b (place h w) := fun p =>
    Fin.ext (by show b.val * 576 + h.val * 24 + w.val = b.val * 576 + (h.val * 24 + w.val); omega)
  unfold quant
  pointwise
  simp only [hr, picks_apply]
  exact Finset.sum_congr rfl fun k _ => mul_comm _ _

/-- The images with the channels last, pixel by pixel. -/
theorem chLast_apply (b : Fin 64) (h w : Fin 24) (d : Fin 64) :
    chLast x (ix4 b h w d) = pixelOf x b (place h w) d := by
  unfold chLast pixelOf place
  pointwise
  congr 2
  · apply Fin.ext
    show h.val = (h.val * 24 + w.val) / 24
    omega
  · apply Fin.ext
    show w.val = (h.val * 24 + w.val) % 24
    omega

/-- The looked-up code minus the pixel. -/
theorem err_apply (b : Fin 64) (h w : Fin 24) (d : Fin 64) :
    err x e (ix4 b h w d) = Cert.Proof.err (tableOf e) (pixelOf x b (place h w)) d := by
  show quant x e (ix4 b h w d) - chLast x (ix4 b h w d) = _
  rw [quant_apply, chLast_apply]
  rfl

/-- The squared errors, added over every axis at once, pixel by pixel. -/
theorem error_value (j : S_.Idx) :
    Ideal.hostReduceAdd reducesTo_S64x24x24x64_S_d0_1_2_3 (mulf (err x e) (err x e)) 0 j = errorSum x e := by
  rw [Ideal.hostReduceAdd_total _ (fun b => b.elim0), zero_add]
  unfold errorSum
  rw [sum_idx4]
  refine Finset.sum_congr rfl fun b _ => ?_
  rw [Fin.sum_univ_tiles 24 24 rfl]
  refine Finset.sum_congr rfl fun h _ => Finset.sum_congr rfl fun w _ => Finset.sum_congr rfl fun d _ => ?_
  show err x e (ix4 b h w d) * err x e (ix4 b h w d) = _
  rw [err_apply]
  rfl

/-- The reference's loss. -/
theorem loss_value : loss x e = fun _ => lossOf (errorSum x e) := by
  funext j
  unfold loss mse
  pointwise
  rw [error_value]
  rfl

/-- The reference's images. -/
theorem image_value : image x e = movedImages x e := by
  funext j
  idx_vars j
  unfold image
  pointwise
  rw [err_apply]
  refine congrArg (· + _) ?_
  unfold chLast
  pointwise

/-- The reference's perplexity. -/
theorem perplexity_value : perplexity x e = fun _ => perplexityOf (countOf x e) := by
  have hc : ∀ k, ∑ n, picks x e (ix2 n k) = countOf x e k := fun k => by
    rw [Fin.sum_univ_tiles 64 576 rfl]
    exact Finset.sum_congr rfl fun b _ => Finset.sum_congr rfl fun q _ => picks_apply x e b q k
  funext j
  unfold perplexity usage
  pointwise
  simp only [hc]
  rfl

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- From the same images and codes the kernel and the reference end with the same loss, images and perplexity. -/
theorem algebraic : Cert.algebraic_KernelIdeal_ReferenceIdeal := by
  intro m g m' g' _ hagree
  refine ⟨fun c => (fun _ => lossOf (errorSum (Block.images m c) (Block.codes m c))),
    fun c => movedImages (Block.images m c) (Block.codes m c),
    fun c => (fun _ => perplexityOf (countOf (Block.images m c) (Block.codes m c))), Block.run m g, ?_⟩
  refine θ_run_mono (Ref.run m' g') ?_
  intro r hr c
  obtain ⟨h0, h1, h2, h3, h4⟩ := hr c
  obtain ⟨e0, e1⟩ := hagree c
  rw [Ref.loss_value, e0, e1] at h0
  rw [Ref.image_value, e0, e1] at h1
  rw [Ref.perplexity_value, e0, e1] at h2
  exact ⟨h0, h1, h2, h3, h4⟩

/-- The claims, one after another: the three frames, that the ideal kernel is the kernel, and the equality of results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Proof.Ref.frame, trivial,
  algebraic⟩

end Cert.Proof

end
